-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x100000 : Shape := ⟨2, ![1024, 100000]⟩
abbrev S6x8x100000 : Shape := ⟨3, ![6, 8, 100000]⟩
abbrev S6 : Shape := ⟨1, ![6]⟩
abbrev S1 : Shape := ⟨1, ![1]⟩
abbrev S_ : Shape := ⟨0, ![]⟩
abbrev S1x8x100000 : Shape := ⟨3, ![1, 8, 100000]⟩
abbrev S8x100000 : Shape := ⟨2, ![8, 100000]⟩

abbrev nBuf : Space → Nat
  | .hbm => 2
  | .vmem => 2
  | .smem => 0
  | _ => 0

abbrev bufTy : (tb : Table) → Fin (tcTables nBuf tb) → BufTy
  | .hbm, ⟨0, _⟩ => ⟨S1024x100000, .f32⟩
  | .hbm, ⟨1, _⟩ => ⟨S1024x100000, .f32⟩
  | .local _ .vmem, ⟨0, _⟩ => ⟨S6x8x100000, .f32⟩
  | .local _ .vmem, ⟨1, _⟩ => ⟨S6x8x100000, .f32⟩
  | _, _ => ⟨S1024x100000, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_scratch0 : Ref sig .tc := ⟨.vmem, 0, rfl⟩
abbrev cc0_scratch1 : Ref sig .tc := ⟨.vmem, 1, rfl⟩

abbrev nD : Nat := 1
abbrev τ : Topo := Topo.v7x

variable {F : FTy → Type} [FloatOps F]

abbrev grid0 : Pipeline.Grid := ⟨1, ![128], ![false]⟩

def k0_off1 (i : grid0.Coords) : Fin 1 → Nat :=
  let arg0 : BitVec 32 := BitVec.ofNat 32 (i 0).val
  let c6_i32 : BitVec 32 := 6#32
  let v0 : BitVec 32 := Scalar.remsi arg0 c6_i32
  ![v0.toNat]
def k0_off2 (i : grid0.Coords) : Fin 3 → Nat :=
  let arg0 : BitVec 32 := BitVec.ofNat 32 (i 0).val
  let c6_i32 : BitVec 32 := 6#32
  let v0 : BitVec 32 := Scalar.remsi arg0 c6_i32
  let c0_i32_1 : BitVec 32 := 0#32
  let c0_i32_2 : BitVec 32 := 0#32
  ![v0.toNat, 0, 0]
def k0_off3 (i : grid0.Coords) : Fin 2 → Nat :=
  let arg0 : BitVec 32 := BitVec.ofNat 32 (i 0).val
  let c8_i32 : BitVec 32 := 8#32
  let v4 : BitVec 32 := Scalar.muli arg0 c8_i32
  let c0_i32_3 : BitVec 32 := 0#32
  ![v4.toNat, 0]
def k0_cond2 (i : grid0.Coords) : BitVec 1 :=
  let arg0 : BitVec 32 := BitVec.ofNat 32 (i 0).val
  let c6_i32_4 : BitVec 32 := 6#32
  let v10 : BitVec 1 := Scalar.cmpi .sge arg0 c6_i32_4
  let v11 : BitVec 32 := Scalar.extui v10
  let c0_i32_5 : BitVec 32 := 0#32
  let v12 : BitVec 1 := Scalar.cmpi .ne v11 c0_i32_5
  v12

def k0_off4 (i : grid0.Coords) : Fin 1 → Nat :=
  let arg0 : BitVec 32 := BitVec.ofNat 32 (i 0).val
  let c6_i32 : BitVec 32 := 6#32
  let v0 : BitVec 32 := Scalar.remsi arg0 c6_i32
  ![v0.toNat]
def k0_off5 (i : grid0.Coords) : Fin 2 → Nat :=
  let arg0 : BitVec 32 := BitVec.ofNat 32 (i 0).val
  let c6_i32_58 : BitVec 32 := 6#32
  let v225 : BitVec 32 := Scalar.subi arg0 c6_i32_58
  let c8_i32_59 : BitVec 32 := 8#32
  let v226 : BitVec 32 := Scalar.muli v225 c8_i32_59
  let c0_i32_60 : BitVec 32 := 0#32
  ![v226.toNat, 0]
def k0_off6 (i : grid0.Coords) : Fin 3 → Nat :=
  let arg0 : BitVec 32 := BitVec.ofNat 32 (i 0).val
  let c6_i32 : BitVec 32 := 6#32
  let v0 : BitVec 32 := Scalar.remsi arg0 c6_i32
  let c0_i32_61 : BitVec 32 := 0#32
  let c0_i32_62 : BitVec 32 := 0#32
  ![v0.toNat, 0, 0]
def k0_off7 (i : grid0.Coords) : Fin 3 → Nat :=
  let arg0 : BitVec 32 := BitVec.ofNat 32 (i 0).val
  let c6_i32 : BitVec 32 := 6#32
  let v0 : BitVec 32 := Scalar.remsi arg0 c6_i32
  let v15 : Index := Scalar.indexCast v0
  let c0 : Index := 0#32
  let c0_7 : Index := 0#32
  ![v15.toNat, 0, 0]
def k0_cond3 (i : grid0.Coords) : BitVec 1 :=
  let arg0 : BitVec 32 := BitVec.ofNat 32 (i 0).val
  let c6_i32_55 : BitVec 32 := 6#32
  let v218 : BitVec 32 := Scalar.addi arg0 c6_i32_55
  let c128_i32 : BitVec 32 := 128#32
  let v219 : BitVec 1 := Scalar.cmpi .slt v218 c128_i32
  let v220 : BitVec 32 := Scalar.extui v219
  let c0_i32_56 : BitVec 32 := 0#32
  let v221 : BitVec 1 := Scalar.cmpi .ne v220 c0_i32_56
  v221

def k0_off8 (i : grid0.Coords) : Fin 1 → Nat :=
  let arg0 : BitVec 32 := BitVec.ofNat 32 (i 0).val
  let c6_i32 : BitVec 32 := 6#32
  let v0 : BitVec 32 := Scalar.remsi arg0 c6_i32
  ![v0.toNat]
def k0_off9 (i : grid0.Coords) : Fin 3 → Nat :=
  let arg0 : BitVec 32 := BitVec.ofNat 32 (i 0).val
  let c6_i32 : BitVec 32 := 6#32
  let v0 : BitVec 32 := Scalar.remsi arg0 c6_i32
  let c0_i32_60 : BitVec 32 := 0#32
  let c0_i32_61 : BitVec 32 := 0#32
  ![v0.toNat, 0, 0]
def k0_off10 (i : grid0.Coords) : Fin 2 → Nat :=
  let arg0 : BitVec 32 := BitVec.ofNat 32 (i 0).val
  let c6_i32_58 : BitVec 32 := 6#32
  let v225 : BitVec 32 := Scalar.addi arg0 c6_i32_58
  let c8_i32_59 : BitVec 32 := 8#32
  let v226 : BitVec 32 := Scalar.muli v225 c8_i32_59
  let c0_i32_62 : BitVec 32 := 0#32
  ![v226.toNat, 0]
def k0_cond4 (i : grid0.Coords) : BitVec 1 :=
  let arg0 : BitVec 32 := BitVec.ofNat 32 (i 0).val
  let c127_i32 : BitVec 32 := 127#32
  let v222 : BitVec 1 := Scalar.cmpi .eq arg0 c127_i32
  let v223 : BitVec 32 := Scalar.extui v222
  let c0_i32_57 : BitVec 32 := 0#32
  let v224 : BitVec 1 := Scalar.cmpi .ne v223 c0_i32_57
  v224

def k0_off11 (i : grid0.Coords) (c5_i32_59 : BitVec 32) : Fin 1 → Nat :=
  let arg0 : BitVec 32 := BitVec.ofNat 32 (i 0).val
  let c6_i32 : BitVec 32 := 6#32
  let v0 : BitVec 32 := Scalar.remsi arg0 c6_i32
  let v226 : BitVec 32 := Scalar.subi v0 c5_i32_59
  let c6_i32_60 : BitVec 32 := 6#32
  let v227 : BitVec 32 := Scalar.addi v226 c6_i32_60
  let c6_i32_61 : BitVec 32 := 6#32
  let v228 : BitVec 32 := Scalar.remsi v227 c6_i32_61
  ![v228.toNat]
def k0_off12 (i : grid0.Coords) (c5_i32_58 : BitVec 32) : Fin 2 → Nat :=
  let arg0 : BitVec 32 := BitVec.ofNat 32 (i 0).val
  let v225 : BitVec 32 := Scalar.subi arg0 c5_i32_58
  let c8_i32_62 : BitVec 32 := 8#32
  let v229 : BitVec 32 := Scalar.muli v225 c8_i32_62
  let c0_i32_63 : BitVec 32 := 0#32
  ![v229.toNat, 0]
def k0_off13 (i : grid0.Coords) (c5_i32_59 : BitVec 32) : Fin 3 → Nat :=
  let arg0 : BitVec 32 := BitVec.ofNat 32 (i 0).val
  let c6_i32 : BitVec 32 := 6#32
  let v0 : BitVec 32 := Scalar.remsi arg0 c6_i32
  let v226 : BitVec 32 := Scalar.subi v0 c5_i32_59
  let c6_i32_60 : BitVec 32 := 6#32
  let v227 : BitVec 32 := Scalar.addi v226 c6_i32_60
  let c6_i32_61 : BitVec 32 := 6#32
  let v228 : BitVec 32 := Scalar.remsi v227 c6_i32_61
  let c0_i32_64 : BitVec 32 := 0#32
  let c0_i32_65 : BitVec 32 := 0#32
  ![v228.toNat, 0, 0]
def k0_off14 (i : grid0.Coords) : Fin 1 → Nat :=
  let arg0 : BitVec 32 := BitVec.ofNat 32 (i 0).val
  let c6_i32 : BitVec 32 := 6#32
  let v0 : BitVec 32 := Scalar.remsi arg0 c6_i32
  ![v0.toNat]
def k0_off15 (i : grid0.Coords) : Fin 2 → Nat :=
  let arg0 : BitVec 32 := BitVec.ofNat 32 (i 0).val
  let c8_i32_98 : BitVec 32 := 8#32
  let v275 : BitVec 32 := Scalar.muli arg0 c8_i32_98
  let c0_i32_99 : BitVec 32 := 0#32
  ![v275.toNat, 0]
def k0_off16 (i : grid0.Coords) : Fin 3 → Nat :=
  let arg0 : BitVec 32 := BitVec.ofNat 32 (i 0).val
  let c6_i32 : BitVec 32 := 6#32
  let v0 : BitVec 32 := Scalar.remsi arg0 c6_i32
  let c0_i32_100 : BitVec 32 := 0#32
  let c0_i32_101 : BitVec 32 := 0#32
  ![v0.toNat, 0, 0]
-- ==== ReferenceIdeal.lean ====
abbrev S1024x100000 : Shape := ⟨2, ![1024, 100000]⟩
abbrev S100000x1024 : Shape := ⟨2, ![100000, 1024]⟩
abbrev S_ : Shape := ⟨0, ![]⟩
abbrev S1 : Shape := ⟨1, ![1]⟩
abbrev S2 : Shape := ⟨1, ![2]⟩
abbrev S1x1 : Shape := ⟨2, ![1, 1]⟩
abbrev S1024x1x100000 : Shape := ⟨3, ![1024, 1, 100000]⟩
abbrev S1024x100000x1 : Shape := ⟨3, ![1024, 100000, 1]⟩

abbrev nBuf : Space → Nat
  | .hbm => 282
  | .vmem => 0
  | .smem => 0
  | _ => 0

abbrev hbmTy0_0 (i : Nat) : BufTy := match i % 128 with
  | 0 => ⟨S1024x100000, .f32⟩
  | 1 => ⟨S100000x1024, .f32⟩
  | 2 => ⟨S1024x100000, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .f32⟩
  | 14 => ⟨S_, .f32⟩
  | 15 => ⟨S_, .f32⟩
  | 16 => ⟨S_, .f32⟩
  | 17 => ⟨S1x1, .f32⟩
  | 18 => ⟨S1x1, .f32⟩
  | 19 => ⟨S1, .i32⟩
  | 20 => ⟨S_, .i32⟩
  | 21 => ⟨S1, .i32⟩
  | 22 => ⟨S_, .i32⟩
  | 23 => ⟨S1024x100000, .i64⟩
  | 24 => ⟨S1024x100000, .i64⟩
  | 25 => ⟨S_, .i64⟩
  | 26 => ⟨S1024x100000, .i64⟩
  | 27 => ⟨S1024x100000, .i64⟩
  | 28 => ⟨S_, .i64⟩
  | 29 => ⟨S1024x100000, .i64⟩
  | 30 => ⟨S1024x100000, .i64⟩
  | 31 => ⟨S1024x100000, .i64⟩
  | 32 => ⟨S_, .i64⟩
  | 33 => ⟨S1024x100000, .i64⟩
  | 34 => ⟨S1024x100000, .i64⟩
  | 35 => ⟨S1024x100000, .i32⟩
  | 36 => ⟨S1024x100000, .i32⟩
  | 37 => ⟨S_, .i32⟩
  | 38 => ⟨S_, .i32⟩
  | 39 => ⟨S_, .i32⟩
  | 40 => ⟨S1024x100000, .i32⟩
  | 41 => ⟨S1024x100000, .i32⟩
  | 42 => ⟨S1024x100000, .i32⟩
  | 43 => ⟨S1024x100000, .i32⟩
  | 44 => ⟨S1024x100000, .i32⟩
  | 45 => ⟨S_, .i32⟩
  | 46 => ⟨S1024x100000, .i32⟩
  | 47 => ⟨S1024x100000, .i32⟩
  | 48 => ⟨S_, .i32⟩
  | 49 => ⟨S1024x100000, .i32⟩
  | 50 => ⟨S1024x100000, .i32⟩
  | 51 => ⟨S1024x100000, .i32⟩
  | 52 => ⟨S1024x100000, .i32⟩
  | 53 => ⟨S1024x100000, .i32⟩
  | 54 => ⟨S_, .i32⟩
  | 55 => ⟨S1024x100000, .i32⟩
  | 56 => ⟨S1024x100000, .i32⟩
  | 57 => ⟨S_, .i32⟩
  | 58 => ⟨S1024x100000, .i32⟩
  | 59 => ⟨S1024x100000, .i32⟩
  | 60 => ⟨S1024x100000, .i32⟩
  | 61 => ⟨S1024x100000, .i32⟩
  | 62 => ⟨S1024x100000, .i32⟩
  | 63 => ⟨S_, .i32⟩
  | 64 => ⟨S1024x100000, .i32⟩
  | 65 => ⟨S1024x100000, .i32⟩
  | 66 => ⟨S_, .i32⟩
  | 67 => ⟨S1024x100000, .i32⟩
  | 68 => ⟨S1024x100000, .i32⟩
  | 69 => ⟨S1024x100000, .i32⟩
  | 70 => ⟨S1024x100000, .i32⟩
  | 71 => ⟨S1024x100000, .i32⟩
  | 72 => ⟨S_, .i32⟩
  | 73 => ⟨S1024x100000, .i32⟩
  | 74 => ⟨S1024x100000, .i32⟩
  | 75 => ⟨S_, .i32⟩
  | 76 => ⟨S1024x100000, .i32⟩
  | 77 => ⟨S1024x100000, .i32⟩
  | 78 => ⟨S1024x100000, .i32⟩
  | 79 => ⟨S1024x100000, .i32⟩
  | 80 => ⟨S1024x100000, .i32⟩
  | 81 => ⟨S1024x100000, .i32⟩
  | 82 => ⟨S1024x100000, .i32⟩
  | 83 => ⟨S1024x100000, .i32⟩
  | 84 => ⟨S_, .i32⟩
  | 85 => ⟨S1024x100000, .i32⟩
  | 86 => ⟨S1024x100000, .i32⟩
  | 87 => ⟨S1024x100000, .i32⟩
  | 88 => ⟨S_, .i32⟩
  | 89 => ⟨S1024x100000, .i32⟩
  | 90 => ⟨S1024x100000, .i32⟩
  | 91 => ⟨S_, .i32⟩
  | 92 => ⟨S1024x100000, .i32⟩
  | 93 => ⟨S1024x100000, .i32⟩
  | 94 => ⟨S1024x100000, .i32⟩
  | 95 => ⟨S1024x100000, .i32⟩
  | 96 => ⟨S1024x100000, .i32⟩
  | 97 => ⟨S_, .i32⟩
  | 98 => ⟨S1024x100000, .i32⟩
  | 99 => ⟨S1024x100000, .i32⟩
  | 100 => ⟨S_, .i32⟩
  | 101 => ⟨S1024x100000, .i32⟩
  | 102 => ⟨S1024x100000, .i32⟩
  | 103 => ⟨S1024x100000, .i32⟩
  | 104 => ⟨S1024x100000, .i32⟩
  | 105 => ⟨S1024x100000, .i32⟩
  | 106 => ⟨S_, .i32⟩
  | 107 => ⟨S1024x100000, .i32⟩
  | 108 => ⟨S1024x100000, .i32⟩
  | 109 => ⟨S_, .i32⟩
  | 110 => ⟨S1024x100000, .i32⟩
  | 111 => ⟨S1024x100000, .i32⟩
  | 112 => ⟨S1024x100000, .i32⟩
  | 113 => ⟨S1024x100000, .i32⟩
  | 114 => ⟨S1024x100000, .i32⟩
  | 115 => ⟨S_, .i32⟩
  | 116 => ⟨S1024x100000, .i32⟩
  | 117 => ⟨S1024x100000, .i32⟩
  | 118 => ⟨S_, .i32⟩
  | 119 => ⟨S1024x100000, .i32⟩
  | 120 => ⟨S1024x100000, .i32⟩
  | 121 => ⟨S1024x100000, .i32⟩
  | 122 => ⟨S1024x100000, .i32⟩
  | 123 => ⟨S1024x100000, .i32⟩
  | 124 => ⟨S1024x100000, .i32⟩
  | 125 => ⟨S1024x100000, .i32⟩
  | 126 => ⟨S1024x100000, .i32⟩
  | 127 => ⟨S_, .i32⟩
  | _ => ⟨S1024x100000, .f32⟩

abbrev hbmTy0_1 (i : Nat) : BufTy := match i % 128 with
  | 0 => ⟨S1024x100000, .i32⟩
  | 1 => ⟨S1024x100000, .i32⟩
  | 2 => ⟨S1024x100000, .i32⟩
  | 3 => ⟨S_, .i32⟩
  | 4 => ⟨S1024x100000, .i32⟩
  | 5 => ⟨S1024x100000, .i32⟩
  | 6 => ⟨S_, .i32⟩
  | 7 => ⟨S1024x100000, .i32⟩
  | 8 => ⟨S1024x100000, .i32⟩
  | 9 => ⟨S1024x100000, .i32⟩
  | 10 => ⟨S1024x100000, .i32⟩
  | 11 => ⟨S1024x100000, .i32⟩
  | 12 => ⟨S_, .i32⟩
  | 13 => ⟨S1024x100000, .i32⟩
  | 14 => ⟨S1024x100000, .i32⟩
  | 15 => ⟨S_, .i32⟩
  | 16 => ⟨S1024x100000, .i32⟩
  | 17 => ⟨S1024x100000, .i32⟩
  | 18 => ⟨S1024x100000, .i32⟩
  | 19 => ⟨S1024x100000, .i32⟩
  | 20 => ⟨S1024x100000, .i32⟩
  | 21 => ⟨S_, .i32⟩
  | 22 => ⟨S1024x100000, .i32⟩
  | 23 => ⟨S1024x100000, .i32⟩
  | 24 => ⟨S_, .i32⟩
  | 25 => ⟨S1024x100000, .i32⟩
  | 26 => ⟨S1024x100000, .i32⟩
  | 27 => ⟨S1024x100000, .i32⟩
  | 28 => ⟨S1024x100000, .i32⟩
  | 29 => ⟨S1024x100000, .i32⟩
  | 30 => ⟨S_, .i32⟩
  | 31 => ⟨S1024x100000, .i32⟩
  | 32 => ⟨S1024x100000, .i32⟩
  | 33 => ⟨S_, .i32⟩
  | 34 => ⟨S1024x100000, .i32⟩
  | 35 => ⟨S1024x100000, .i32⟩
  | 36 => ⟨S1024x100000, .i32⟩
  | 37 => ⟨S1024x100000, .i32⟩
  | 38 => ⟨S1024x100000, .i32⟩
  | 39 => ⟨S1024x100000, .i32⟩
  | 40 => ⟨S1024x100000, .i32⟩
  | 41 => ⟨S1024x100000, .i32⟩
  | 42 => ⟨S_, .i32⟩
  | 43 => ⟨S1024x100000, .i32⟩
  | 44 => ⟨S1024x100000, .i32⟩
  | 45 => ⟨S1024x100000, .i32⟩
  | 46 => ⟨S_, .i32⟩
  | 47 => ⟨S1024x100000, .i32⟩
  | 48 => ⟨S1024x100000, .i32⟩
  | 49 => ⟨S_, .i32⟩
  | 50 => ⟨S1024x100000, .i32⟩
  | 51 => ⟨S1024x100000, .i32⟩
  | 52 => ⟨S1024x100000, .i32⟩
  | 53 => ⟨S1024x100000, .i32⟩
  | 54 => ⟨S1024x100000, .i32⟩
  | 55 => ⟨S_, .i32⟩
  | 56 => ⟨S1024x100000, .i32⟩
  | 57 => ⟨S1024x100000, .i32⟩
  | 58 => ⟨S_, .i32⟩
  | 59 => ⟨S1024x100000, .i32⟩
  | 60 => ⟨S1024x100000, .i32⟩
  | 61 => ⟨S1024x100000, .i32⟩
  | 62 => ⟨S1024x100000, .i32⟩
  | 63 => ⟨S1024x100000, .i32⟩
  | 64 => ⟨S_, .i32⟩
  | 65 => ⟨S1024x100000, .i32⟩
  | 66 => ⟨S1024x100000, .i32⟩
  | 67 => ⟨S_, .i32⟩
  | 68 => ⟨S1024x100000, .i32⟩
  | 69 => ⟨S1024x100000, .i32⟩
  | 70 => ⟨S1024x100000, .i32⟩
  | 71 => ⟨S1024x100000, .i32⟩
  | 72 => ⟨S1024x100000, .i32⟩
  | 73 => ⟨S_, .i32⟩
  | 74 => ⟨S1024x100000, .i32⟩
  | 75 => ⟨S1024x100000, .i32⟩
  | 76 => ⟨S_, .i32⟩
  | 77 => ⟨S1024x100000, .i32⟩
  | 78 => ⟨S1024x100000, .i32⟩
  | 79 => ⟨S1024x100000, .i32⟩
  | 80 => ⟨S1024x100000, .i32⟩
  | 81 => ⟨S1024x100000, .i32⟩
  | 82 => ⟨S1024x100000, .i32⟩
  | 83 => ⟨S1024x100000, .i32⟩
  | 84 => ⟨S1024x100000, .i32⟩
  | 85 => ⟨S_, .i32⟩
  | 86 => ⟨S1024x100000, .i32⟩
  | 87 => ⟨S1024x100000, .i32⟩
  | 88 => ⟨S1024x100000, .i32⟩
  | 89 => ⟨S_, .i32⟩
  | 90 => ⟨S1024x100000, .i32⟩
  | 91 => ⟨S1024x100000, .i32⟩
  | 92 => ⟨S_, .i32⟩
  | 93 => ⟨S1024x100000, .i32⟩
  | 94 => ⟨S1024x100000, .i32⟩
  | 95 => ⟨S1024x100000, .i32⟩
  | 96 => ⟨S1024x100000, .i32⟩
  | 97 => ⟨S1024x100000, .i32⟩
  | 98 => ⟨S_, .i32⟩
  | 99 => ⟨S1024x100000, .i32⟩
  | 100 => ⟨S1024x100000, .i32⟩
  | 101 => ⟨S_, .i32⟩
  | 102 => ⟨S1024x100000, .i32⟩
  | 103 => ⟨S1024x100000, .i32⟩
  | 104 => ⟨S1024x100000, .i32⟩
  | 105 => ⟨S1024x100000, .i32⟩
  | 106 => ⟨S1024x100000, .i32⟩
  | 107 => ⟨S_, .i32⟩
  | 108 => ⟨S1024x100000, .i32⟩
  | 109 => ⟨S1024x100000, .i32⟩
  | 110 => ⟨S_, .i32⟩
  | 111 => ⟨S1024x100000, .i32⟩
  | 112 => ⟨S1024x100000, .i32⟩
  | 113 => ⟨S1024x100000, .i32⟩
  | 114 => ⟨S1024x100000, .i32⟩
  | 115 => ⟨S1024x100000, .i32⟩
  | 116 => ⟨S_, .i32⟩
  | 117 => ⟨S1024x100000, .i32⟩
  | 118 => ⟨S1024x100000, .i32⟩
  | 119 => ⟨S_, .i32⟩
  | 120 => ⟨S1024x100000, .i32⟩
  | 121 => ⟨S1024x100000, .i32⟩
  | 122 => ⟨S1024x100000, .i32⟩
  | 123 => ⟨S1024x100000, .i32⟩
  | 124 => ⟨S1024x100000, .i32⟩
  | 125 => ⟨S1024x100000, .i32⟩
  | 126 => ⟨S1024x100000, .i32⟩
  | 127 => ⟨S1024x100000, .i32⟩
  | _ => ⟨S1024x100000, .f32⟩

abbrev hbmTy0_2 (i : Nat) : BufTy := match i % 128 with
  | 0 => ⟨S_, .i32⟩
  | 1 => ⟨S1024x100000, .i32⟩
  | 2 => ⟨S1024x100000, .i32⟩
  | 3 => ⟨S1024x100000, .i32⟩
  | 4 => ⟨S_, .i32⟩
  | 5 => ⟨S1024x100000, .i32⟩
  | 6 => ⟨S1024x100000, .i32⟩
  | 7 => ⟨S_, .i32⟩
  | 8 => ⟨S1024x100000, .i32⟩
  | 9 => ⟨S1024x100000, .i32⟩
  | 10 => ⟨S1024x100000, .f32⟩
  | 11 => ⟨S_, .f32⟩
  | 12 => ⟨S1024x100000, .f32⟩
  | 13 => ⟨S1024x100000, .f32⟩
  | 14 => ⟨S1x1, .f32⟩
  | 15 => ⟨S1024x100000, .f32⟩
  | 16 => ⟨S1024x100000, .f32⟩
  | 17 => ⟨S1024x100000, .f32⟩
  | 18 => ⟨S1024x100000, .f32⟩
  | 19 => ⟨S1024x100000, .f32⟩
  | 20 => ⟨S1024x100000, .f32⟩
  | 21 => ⟨S1024x100000, .i1⟩
  | 22 => ⟨S1024x100000, .f32⟩
  | 23 => ⟨S1024x1x100000, .f32⟩
  | 24 => ⟨S1024x100000x1, .f32⟩
  | 25 => ⟨S1024x100000, .f32⟩
  | _ => ⟨S1024x100000, .f32⟩

abbrev hbmTy (i : Nat) : BufTy := match i / 128 with
  | 0 => hbmTy0_0 i
  | 1 => hbmTy0_1 i
  | 2 => hbmTy0_2 i
  | _ => ⟨S1024x100000, .f32⟩

abbrev bufTy : (tb : Table) → Fin (tcTables nBuf tb) → BufTy
  | .hbm, ⟨i, _⟩ => hbmTy i
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_c : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_c_1 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_call0_v0 : Ref sig .tc := ⟨.hbm, 37, rfl⟩
abbrev main_call0_call0_c : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_c_0 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_c_1 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_call0_v12 : Ref sig .tc := ⟨.hbm, 52, rfl⟩
abbrev main_call0_call0_v13 : Ref sig .tc := ⟨.hbm, 53, rfl⟩
abbrev main_call0_call0_c_2 : Ref sig .tc := ⟨.hbm, 54, rfl⟩
abbrev main_call0_call0_v14 : Ref sig .tc := ⟨.hbm, 55, rfl⟩
abbrev main_call0_call0_v15 : Ref sig .tc := ⟨.hbm, 56, rfl⟩
abbrev main_call0_call0_c_3 : Ref sig .tc := ⟨.hbm, 57, rfl⟩
abbrev main_call0_call0_v16 : Ref sig .tc := ⟨.hbm, 58, rfl⟩
abbrev main_call0_call0_v17 : Ref sig .tc := ⟨.hbm, 59, rfl⟩
abbrev main_call0_call0_v18 : Ref sig .tc := ⟨.hbm, 60, rfl⟩
abbrev main_call0_call0_v19 : Ref sig .tc := ⟨.hbm, 61, rfl⟩
abbrev main_call0_call0_v20 : Ref sig .tc := ⟨.hbm, 62, rfl⟩
abbrev main_call0_call0_c_4 : Ref sig .tc := ⟨.hbm, 63, rfl⟩
abbrev main_call0_call0_v21 : Ref sig .tc := ⟨.hbm, 64, rfl⟩
abbrev main_call0_call0_v22 : Ref sig .tc := ⟨.hbm, 65, rfl⟩
abbrev main_call0_call0_c_5 : Ref sig .tc := ⟨.hbm, 66, rfl⟩
abbrev main_call0_call0_v23 : Ref sig .tc := ⟨.hbm, 67, rfl⟩
abbrev main_call0_call0_v24 : Ref sig .tc := ⟨.hbm, 68, rfl⟩
abbrev main_call0_call0_v25 : Ref sig .tc := ⟨.hbm, 69, rfl⟩
abbrev main_call0_call0_v26 : Ref sig .tc := ⟨.hbm, 70, rfl⟩
abbrev main_call0_call0_v27 : Ref sig .tc := ⟨.hbm, 71, rfl⟩
abbrev main_call0_call0_c_6 : Ref sig .tc := ⟨.hbm, 72, rfl⟩
abbrev main_call0_call0_v28 : Ref sig .tc := ⟨.hbm, 73, rfl⟩
abbrev main_call0_call0_v29 : Ref sig .tc := ⟨.hbm, 74, rfl⟩
abbrev main_call0_call0_c_7 : Ref sig .tc := ⟨.hbm, 75, rfl⟩
abbrev main_call0_call0_v30 : Ref sig .tc := ⟨.hbm, 76, rfl⟩
abbrev main_call0_call0_v31 : Ref sig .tc := ⟨.hbm, 77, rfl⟩
abbrev main_call0_call0_v32 : Ref sig .tc := ⟨.hbm, 78, rfl⟩
abbrev main_call0_call0_v33 : Ref sig .tc := ⟨.hbm, 79, rfl⟩
abbrev main_call0_call0_v34 : Ref sig .tc := ⟨.hbm, 80, rfl⟩
abbrev main_call0_call0_v35 : Ref sig .tc := ⟨.hbm, 81, rfl⟩
abbrev main_call0_call0_v36 : Ref sig .tc := ⟨.hbm, 82, rfl⟩
abbrev main_call0_call0_v37 : Ref sig .tc := ⟨.hbm, 83, rfl⟩
abbrev main_call0_call0_c_8 : Ref sig .tc := ⟨.hbm, 84, rfl⟩
abbrev main_call0_call0_v38 : Ref sig .tc := ⟨.hbm, 85, rfl⟩
abbrev main_call0_call0_v39 : Ref sig .tc := ⟨.hbm, 86, rfl⟩
abbrev main_call0_call0_v40 : Ref sig .tc := ⟨.hbm, 87, rfl⟩
abbrev main_call0_call0_c_9 : Ref sig .tc := ⟨.hbm, 88, rfl⟩
abbrev main_call0_call0_v41 : Ref sig .tc := ⟨.hbm, 89, rfl⟩
abbrev main_call0_call0_v42 : Ref sig .tc := ⟨.hbm, 90, rfl⟩
abbrev main_call0_call0_c_10 : Ref sig .tc := ⟨.hbm, 91, rfl⟩
abbrev main_call0_call0_v43 : Ref sig .tc := ⟨.hbm, 92, rfl⟩
abbrev main_call0_call0_v44 : Ref sig .tc := ⟨.hbm, 93, rfl⟩
abbrev main_call0_call0_v45 : Ref sig .tc := ⟨.hbm, 94, rfl⟩
abbrev main_call0_call0_v46 : Ref sig .tc := ⟨.hbm, 95, rfl⟩
abbrev main_call0_call0_v47 : Ref sig .tc := ⟨.hbm, 96, rfl⟩
abbrev main_call0_call0_c_11 : Ref sig .tc := ⟨.hbm, 97, rfl⟩
abbrev main_call0_call0_v48 : Ref sig .tc := ⟨.hbm, 98, rfl⟩
abbrev main_call0_call0_v49 : Ref sig .tc := ⟨.hbm, 99, rfl⟩
abbrev main_call0_call0_c_12 : Ref sig .tc := ⟨.hbm, 100, rfl⟩
abbrev main_call0_call0_v50 : Ref sig .tc := ⟨.hbm, 101, rfl⟩
abbrev main_call0_call0_v51 : Ref sig .tc := ⟨.hbm, 102, rfl⟩
abbrev main_call0_call0_v52 : Ref sig .tc := ⟨.hbm, 103, rfl⟩
abbrev main_call0_call0_v53 : Ref sig .tc := ⟨.hbm, 104, rfl⟩
abbrev main_call0_call0_v54 : Ref sig .tc := ⟨.hbm, 105, rfl⟩
abbrev main_call0_call0_c_13 : Ref sig .tc := ⟨.hbm, 106, rfl⟩
abbrev main_call0_call0_v55 : Ref sig .tc := ⟨.hbm, 107, rfl⟩
abbrev main_call0_call0_v56 : Ref sig .tc := ⟨.hbm, 108, rfl⟩
abbrev main_call0_call0_c_14 : Ref sig .tc := ⟨.hbm, 109, rfl⟩
abbrev main_call0_call0_v57 : Ref sig .tc := ⟨.hbm, 110, rfl⟩
abbrev main_call0_call0_v58 : Ref sig .tc := ⟨.hbm, 111, rfl⟩
abbrev main_call0_call0_v59 : Ref sig .tc := ⟨.hbm, 112, rfl⟩
abbrev main_call0_call0_v60 : Ref sig .tc := ⟨.hbm, 113, rfl⟩
abbrev main_call0_call0_v61 : Ref sig .tc := ⟨.hbm, 114, rfl⟩
abbrev main_call0_call0_c_15 : Ref sig .tc := ⟨.hbm, 115, rfl⟩
abbrev main_call0_call0_v62 : Ref sig .tc := ⟨.hbm, 116, rfl⟩
abbrev main_call0_call0_v63 : Ref sig .tc := ⟨.hbm, 117, rfl⟩
abbrev main_call0_call0_c_16 : Ref sig .tc := ⟨.hbm, 118, rfl⟩
abbrev main_call0_call0_v64 : Ref sig .tc := ⟨.hbm, 119, rfl⟩
abbrev main_call0_call0_v65 : Ref sig .tc := ⟨.hbm, 120, rfl⟩
abbrev main_call0_call0_v66 : Ref sig .tc := ⟨.hbm, 121, rfl⟩
abbrev main_call0_call0_v67 : Ref sig .tc := ⟨.hbm, 122, rfl⟩
abbrev main_call0_call0_v68 : Ref sig .tc := ⟨.hbm, 123, rfl⟩
abbrev main_call0_call0_v69 : Ref sig .tc := ⟨.hbm, 124, rfl⟩
abbrev main_call0_call0_v70 : Ref sig .tc := ⟨.hbm, 125, rfl⟩
abbrev main_call0_call0_v71 : Ref sig .tc := ⟨.hbm, 126, rfl⟩
abbrev main_call0_call0_c_17 : Ref sig .tc := ⟨.hbm, 127, rfl⟩
abbrev main_call0_call0_v72 : Ref sig .tc := ⟨.hbm, 128, rfl⟩
abbrev main_call0_call0_v73 : Ref sig .tc := ⟨.hbm, 129, rfl⟩
abbrev main_call0_call0_v74 : Ref sig .tc := ⟨.hbm, 130, rfl⟩
abbrev main_call0_call0_c_18 : Ref sig .tc := ⟨.hbm, 131, rfl⟩
abbrev main_call0_call0_v75 : Ref sig .tc := ⟨.hbm, 132, rfl⟩
abbrev main_call0_call0_v76 : Ref sig .tc := ⟨.hbm, 133, rfl⟩
abbrev main_call0_call0_c_19 : Ref sig .tc := ⟨.hbm, 134, rfl⟩
abbrev main_call0_call0_v77 : Ref sig .tc := ⟨.hbm, 135, rfl⟩
abbrev main_call0_call0_v78 : Ref sig .tc := ⟨.hbm, 136, rfl⟩
abbrev main_call0_call0_v79 : Ref sig .tc := ⟨.hbm, 137, rfl⟩
abbrev main_call0_call0_v80 : Ref sig .tc := ⟨.hbm, 138, rfl⟩
abbrev main_call0_call0_v81 : Ref sig .tc := ⟨.hbm, 139, rfl⟩
abbrev main_call0_call0_c_20 : Ref sig .tc := ⟨.hbm, 140, rfl⟩
abbrev main_call0_call0_v82 : Ref sig .tc := ⟨.hbm, 141, rfl⟩
abbrev main_call0_call0_v83 : Ref sig .tc := ⟨.hbm, 142, rfl⟩
abbrev main_call0_call0_c_21 : Ref sig .tc := ⟨.hbm, 143, rfl⟩
abbrev main_call0_call0_v84 : Ref sig .tc := ⟨.hbm, 144, rfl⟩
abbrev main_call0_call0_v85 : Ref sig .tc := ⟨.hbm, 145, rfl⟩
abbrev main_call0_call0_v86 : Ref sig .tc := ⟨.hbm, 146, rfl⟩
abbrev main_call0_call0_v87 : Ref sig .tc := ⟨.hbm, 147, rfl⟩
abbrev main_call0_call0_v88 : Ref sig .tc := ⟨.hbm, 148, rfl⟩
abbrev main_call0_call0_c_22 : Ref sig .tc := ⟨.hbm, 149, rfl⟩
abbrev main_call0_call0_v89 : Ref sig .tc := ⟨.hbm, 150, rfl⟩
abbrev main_call0_call0_v90 : Ref sig .tc := ⟨.hbm, 151, rfl⟩
abbrev main_call0_call0_c_23 : Ref sig .tc := ⟨.hbm, 152, rfl⟩
abbrev main_call0_call0_v91 : Ref sig .tc := ⟨.hbm, 153, rfl⟩
abbrev main_call0_call0_v92 : Ref sig .tc := ⟨.hbm, 154, rfl⟩
abbrev main_call0_call0_v93 : Ref sig .tc := ⟨.hbm, 155, rfl⟩
abbrev main_call0_call0_v94 : Ref sig .tc := ⟨.hbm, 156, rfl⟩
abbrev main_call0_call0_v95 : Ref sig .tc := ⟨.hbm, 157, rfl⟩
abbrev main_call0_call0_c_24 : Ref sig .tc := ⟨.hbm, 158, rfl⟩
abbrev main_call0_call0_v96 : Ref sig .tc := ⟨.hbm, 159, rfl⟩
abbrev main_call0_call0_v97 : Ref sig .tc := ⟨.hbm, 160, rfl⟩
abbrev main_call0_call0_c_25 : Ref sig .tc := ⟨.hbm, 161, rfl⟩
abbrev main_call0_call0_v98 : Ref sig .tc := ⟨.hbm, 162, rfl⟩
abbrev main_call0_call0_v99 : Ref sig .tc := ⟨.hbm, 163, rfl⟩
abbrev main_call0_call0_v100 : Ref sig .tc := ⟨.hbm, 164, rfl⟩
abbrev main_call0_call0_v101 : Ref sig .tc := ⟨.hbm, 165, rfl⟩
abbrev main_call0_call0_v102 : Ref sig .tc := ⟨.hbm, 166, rfl⟩
abbrev main_call0_call0_v103 : Ref sig .tc := ⟨.hbm, 167, rfl⟩
abbrev main_call0_call0_v104 : Ref sig .tc := ⟨.hbm, 168, rfl⟩
abbrev main_call0_call0_v105 : Ref sig .tc := ⟨.hbm, 169, rfl⟩
abbrev main_call0_call0_c_26 : Ref sig .tc := ⟨.hbm, 170, rfl⟩
abbrev main_call0_call0_v106 : Ref sig .tc := ⟨.hbm, 171, rfl⟩
abbrev main_call0_call0_v107 : Ref sig .tc := ⟨.hbm, 172, rfl⟩
abbrev main_call0_call0_v108 : Ref sig .tc := ⟨.hbm, 173, rfl⟩
abbrev main_call0_call0_c_27 : Ref sig .tc := ⟨.hbm, 174, rfl⟩
abbrev main_call0_call0_v109 : Ref sig .tc := ⟨.hbm, 175, rfl⟩
abbrev main_call0_call0_v110 : Ref sig .tc := ⟨.hbm, 176, rfl⟩
abbrev main_call0_call0_c_28 : Ref sig .tc := ⟨.hbm, 177, rfl⟩
abbrev main_call0_call0_v111 : Ref sig .tc := ⟨.hbm, 178, rfl⟩
abbrev main_call0_call0_v112 : Ref sig .tc := ⟨.hbm, 179, rfl⟩
abbrev main_call0_call0_v113 : Ref sig .tc := ⟨.hbm, 180, rfl⟩
abbrev main_call0_call0_v114 : Ref sig .tc := ⟨.hbm, 181, rfl⟩
abbrev main_call0_call0_v115 : Ref sig .tc := ⟨.hbm, 182, rfl⟩
abbrev main_call0_call0_c_29 : Ref sig .tc := ⟨.hbm, 183, rfl⟩
abbrev main_call0_call0_v116 : Ref sig .tc := ⟨.hbm, 184, rfl⟩
abbrev main_call0_call0_v117 : Ref sig .tc := ⟨.hbm, 185, rfl⟩
abbrev main_call0_call0_c_30 : Ref sig .tc := ⟨.hbm, 186, rfl⟩
abbrev main_call0_call0_v118 : Ref sig .tc := ⟨.hbm, 187, rfl⟩
abbrev main_call0_call0_v119 : Ref sig .tc := ⟨.hbm, 188, rfl⟩
abbrev main_call0_call0_v120 : Ref sig .tc := ⟨.hbm, 189, rfl⟩
abbrev main_call0_call0_v121 : Ref sig .tc := ⟨.hbm, 190, rfl⟩
abbrev main_call0_call0_v122 : Ref sig .tc := ⟨.hbm, 191, rfl⟩
abbrev main_call0_call0_c_31 : Ref sig .tc := ⟨.hbm, 192, rfl⟩
abbrev main_call0_call0_v123 : Ref sig .tc := ⟨.hbm, 193, rfl⟩
abbrev main_call0_call0_v124 : Ref sig .tc := ⟨.hbm, 194, rfl⟩
abbrev main_call0_call0_c_32 : Ref sig .tc := ⟨.hbm, 195, rfl⟩
abbrev main_call0_call0_v125 : Ref sig .tc := ⟨.hbm, 196, rfl⟩
abbrev main_call0_call0_v126 : Ref sig .tc := ⟨.hbm, 197, rfl⟩
abbrev main_call0_call0_v127 : Ref sig .tc := ⟨.hbm, 198, rfl⟩
abbrev main_call0_call0_v128 : Ref sig .tc := ⟨.hbm, 199, rfl⟩
abbrev main_call0_call0_v129 : Ref sig .tc := ⟨.hbm, 200, rfl⟩
abbrev main_call0_call0_c_33 : Ref sig .tc := ⟨.hbm, 201, rfl⟩
abbrev main_call0_call0_v130 : Ref sig .tc := ⟨.hbm, 202, rfl⟩
abbrev main_call0_call0_v131 : Ref sig .tc := ⟨.hbm, 203, rfl⟩
abbrev main_call0_call0_c_34 : Ref sig .tc := ⟨.hbm, 204, rfl⟩
abbrev main_call0_call0_v132 : Ref sig .tc := ⟨.hbm, 205, rfl⟩
abbrev main_call0_call0_v133 : Ref sig .tc := ⟨.hbm, 206, rfl⟩
abbrev main_call0_call0_v134 : Ref sig .tc := ⟨.hbm, 207, rfl⟩
abbrev main_call0_call0_v135 : Ref sig .tc := ⟨.hbm, 208, rfl⟩
abbrev main_call0_call0_v136 : Ref sig .tc := ⟨.hbm, 209, rfl⟩
abbrev main_call0_call0_v137 : Ref sig .tc := ⟨.hbm, 210, rfl⟩
abbrev main_call0_call0_v138 : Ref sig .tc := ⟨.hbm, 211, rfl⟩
abbrev main_call0_call0_v139 : Ref sig .tc := ⟨.hbm, 212, rfl⟩
abbrev main_call0_call0_c_35 : Ref sig .tc := ⟨.hbm, 213, rfl⟩
abbrev main_call0_call0_v140 : Ref sig .tc := ⟨.hbm, 214, rfl⟩
abbrev main_call0_call0_v141 : Ref sig .tc := ⟨.hbm, 215, rfl⟩
abbrev main_call0_call0_v142 : Ref sig .tc := ⟨.hbm, 216, rfl⟩
abbrev main_call0_call0_c_36 : Ref sig .tc := ⟨.hbm, 217, rfl⟩
abbrev main_call0_call0_v143 : Ref sig .tc := ⟨.hbm, 218, rfl⟩
abbrev main_call0_call0_v144 : Ref sig .tc := ⟨.hbm, 219, rfl⟩
abbrev main_call0_call0_c_37 : Ref sig .tc := ⟨.hbm, 220, rfl⟩
abbrev main_call0_call0_v145 : Ref sig .tc := ⟨.hbm, 221, rfl⟩
abbrev main_call0_call0_v146 : Ref sig .tc := ⟨.hbm, 222, rfl⟩
abbrev main_call0_call0_v147 : Ref sig .tc := ⟨.hbm, 223, rfl⟩
abbrev main_call0_call0_v148 : Ref sig .tc := ⟨.hbm, 224, rfl⟩
abbrev main_call0_call0_v149 : Ref sig .tc := ⟨.hbm, 225, rfl⟩
abbrev main_call0_call0_c_38 : Ref sig .tc := ⟨.hbm, 226, rfl⟩
abbrev main_call0_call0_v150 : Ref sig .tc := ⟨.hbm, 227, rfl⟩
abbrev main_call0_call0_v151 : Ref sig .tc := ⟨.hbm, 228, rfl⟩
abbrev main_call0_call0_c_39 : Ref sig .tc := ⟨.hbm, 229, rfl⟩
abbrev main_call0_call0_v152 : Ref sig .tc := ⟨.hbm, 230, rfl⟩
abbrev main_call0_call0_v153 : Ref sig .tc := ⟨.hbm, 231, rfl⟩
abbrev main_call0_call0_v154 : Ref sig .tc := ⟨.hbm, 232, rfl⟩
abbrev main_call0_call0_v155 : Ref sig .tc := ⟨.hbm, 233, rfl⟩
abbrev main_call0_call0_v156 : Ref sig .tc := ⟨.hbm, 234, rfl⟩
abbrev main_call0_call0_c_40 : Ref sig .tc := ⟨.hbm, 235, rfl⟩
abbrev main_call0_call0_v157 : Ref sig .tc := ⟨.hbm, 236, rfl⟩
abbrev main_call0_call0_v158 : Ref sig .tc := ⟨.hbm, 237, rfl⟩
abbrev main_call0_call0_c_41 : Ref sig .tc := ⟨.hbm, 238, rfl⟩
abbrev main_call0_call0_v159 : Ref sig .tc := ⟨.hbm, 239, rfl⟩
abbrev main_call0_call0_v160 : Ref sig .tc := ⟨.hbm, 240, rfl⟩
abbrev main_call0_call0_v161 : Ref sig .tc := ⟨.hbm, 241, rfl⟩
abbrev main_call0_call0_v162 : Ref sig .tc := ⟨.hbm, 242, rfl⟩
abbrev main_call0_call0_v163 : Ref sig .tc := ⟨.hbm, 243, rfl⟩
abbrev main_call0_call0_c_42 : Ref sig .tc := ⟨.hbm, 244, rfl⟩
abbrev main_call0_call0_v164 : Ref sig .tc := ⟨.hbm, 245, rfl⟩
abbrev main_call0_call0_v165 : Ref sig .tc := ⟨.hbm, 246, rfl⟩
abbrev main_call0_call0_c_43 : Ref sig .tc := ⟨.hbm, 247, rfl⟩
abbrev main_call0_call0_v166 : Ref sig .tc := ⟨.hbm, 248, rfl⟩
abbrev main_call0_call0_v167 : Ref sig .tc := ⟨.hbm, 249, rfl⟩
abbrev main_call0_call0_v168 : Ref sig .tc := ⟨.hbm, 250, rfl⟩
abbrev main_call0_call0_v169 : Ref sig .tc := ⟨.hbm, 251, rfl⟩
abbrev main_call0_call0_v170 : Ref sig .tc := ⟨.hbm, 252, rfl⟩
abbrev main_call0_v19_0 : Ref sig .tc := ⟨.hbm, 253, rfl⟩
abbrev main_call0_call0_v172 : Ref sig .tc := ⟨.hbm, 254, rfl⟩
abbrev main_call0_call0_v173 : Ref sig .tc := ⟨.hbm, 255, rfl⟩
abbrev main_call0_call0_c_44 : Ref sig .tc := ⟨.hbm, 256, rfl⟩
abbrev main_call0_call0_v174 : Ref sig .tc := ⟨.hbm, 257, rfl⟩
abbrev main_call0_v19_1 : Ref sig .tc := ⟨.hbm, 258, rfl⟩
abbrev main_call0_v20 : Ref sig .tc := ⟨.hbm, 259, rfl⟩
abbrev main_call0_c_2 : Ref sig .tc := ⟨.hbm, 260, rfl⟩
abbrev main_call0_v21 : Ref sig .tc := ⟨.hbm, 261, rfl⟩
abbrev main_call0_v22 : Ref sig .tc := ⟨.hbm, 262, rfl⟩
abbrev main_call0_c_3 : Ref sig .tc := ⟨.hbm, 263, rfl⟩
abbrev main_call0_v23 : Ref sig .tc := ⟨.hbm, 264, rfl⟩
abbrev main_call0_v24 : Ref sig .tc := ⟨.hbm, 265, rfl⟩
abbrev main_call0_v25 : Ref sig .tc := ⟨.hbm, 266, rfl⟩
abbrev main_call0_cst : Ref sig .tc := ⟨.hbm, 267, rfl⟩
abbrev main_call0_v26 : Ref sig .tc := ⟨.hbm, 268, rfl⟩
abbrev main_call0_v27 : Ref sig .tc := ⟨.hbm, 269, rfl⟩
abbrev main_call0_v28 : Ref sig .tc := ⟨.hbm, 270, rfl⟩
abbrev main_call0_v29 : Ref sig .tc := ⟨.hbm, 271, rfl⟩
abbrev main_call0_v30 : Ref sig .tc := ⟨.hbm, 272, rfl⟩
abbrev main_call0_v31 : Ref sig .tc := ⟨.hbm, 273, rfl⟩
abbrev main_call0_v32 : Ref sig .tc := ⟨.hbm, 274, rfl⟩
abbrev main_call0_v33 : Ref sig .tc := ⟨.hbm, 275, rfl⟩
abbrev main_v9 : Ref sig .tc := ⟨.hbm, 276, rfl⟩
abbrev main_v10 : Ref sig .tc := ⟨.hbm, 277, rfl⟩
abbrev main_v11 : Ref sig .tc := ⟨.hbm, 278, rfl⟩
abbrev main_v12 : Ref sig .tc := ⟨.hbm, 279, rfl⟩
abbrev main_v13 : Ref sig .tc := ⟨.hbm, 280, rfl⟩
abbrev main_v14 : Ref sig .tc := ⟨.hbm, 281, rfl⟩

abbrev nD : Nat := 1
abbrev τ : Topo := Topo.v7x

variable {F : FTy → Type} [FloatOps F]
-- ==== Proof.Names.lean ====
/-
  Names for what the kernel moves: block `b` of the argument and of the result (eight rows each), slot `s` of the
  ring the argument is read through and of the ring the result is written through, and each slot's semaphore — and
  the equations that turn every slice the body takes into one of those names.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Bern

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The four buffers and their parts -/

/-- The operand, whole; -/
abbrev xM : Memref sig .tc .hbm S1024x100000 .f32 := Memref.whole main_arg0
/-- the result, whole; -/
abbrev yM : Memref sig .tc .hbm S1024x100000 .f32 := Memref.whole main_v0
/-- the reading ring, whole; -/
abbrev rM : Memref sig .tc .vmem S6x8x100000 .f32 := Memref.whole cc0_scratch0
/-- the writing ring, whole. -/
abbrev wM : Memref sig .tc .vmem S6x8x100000 .f32 := Memref.whole cc0_scratch1

/-- Where block `b` begins. -/
abbrev blkOff (b : Fin 128) : Fin 2 → Nat := ![8 * b.val, 0]
/-- Block `b`'s eight rows lie in the array. -/
theorem blkOff_inb (b : Fin 128) : ∀ a, blkOff b a + S8x100000.size a ≤ S1024x100000.size a := by
  have := b.isLt; intro a; fin_cases a
  · show 8 * b.val + 8 ≤ 1024; omega
  · show 0 + 100000 ≤ 100000; omega
/-- Where slot `s` begins. -/
abbrev slotOff (s : Fin 6) : Fin 3 → Nat := ![s.val, 0, 0]
/-- Slot `s` lies in its ring. -/
theorem slotOff_inb (s : Fin 6) : ∀ a, slotOff s a + S1x8x100000.size a ≤ S6x8x100000.size a := by
  have := s.isLt; intro a; fin_cases a
  · show s.val + 1 ≤ 6; omega
  · show 0 + 8 ≤ 8; omega
  · show 0 + 100000 ≤ 100000; omega
/-- Where slot `s` has its counter. -/
abbrev semOff (s : Fin 6) : Fin 1 → Nat := ![s.val]
/-- Semaphore `s` lies in its array. -/
theorem semOff_inb (s : Fin 6) : ∀ a, semOff s a + S1.size a ≤ S6.size a := by
  have := s.isLt; intro a; fin_cases a; show s.val + 1 ≤ 6; omega

/-- Block `b` of the argument. -/
def xB (b : Fin 128) : Memref sig .tc .hbm S8x100000 .f32 :=
  xM.slice (Rect.unit (s := S1024x100000) (blkOff b) S8x100000.size (blkOff_inb b)) (fun _ => rfl)
/-- Block `b` of the result. -/
def yB (b : Fin 128) : Memref sig .tc .hbm S8x100000 .f32 :=
  yM.slice (Rect.unit (s := S1024x100000) (blkOff b) S8x100000.size (blkOff_inb b)) (fun _ => rfl)
/-- Slot `s` of the ring the argument is read through. -/
def rS (s : Fin 6) : Memref sig .tc .vmem S8x100000 .f32 :=
  (rM.slice (Rect.unit (s := S6x8x100000) (slotOff s) S1x8x100000.size (slotOff_inb s)) (fun _ => rfl)).squeeze S8x100000 squeezes_S1x8x100000_S8x100000
/-- Slot `s` of the ring the result is written through. -/
def wS (s : Fin 6) : Memref sig .tc .vmem S8x100000 .f32 :=
  (wM.slice (Rect.unit (s := S6x8x100000) (slotOff s) S1x8x100000.size (slotOff_inb s)) (fun _ => rfl)).squeeze S8x100000 squeezes_S1x8x100000_S8x100000
/-- The semaphore of slot `s` of the reading ring. -/
def rC (s : Fin 6) : DmaSems sig S_ := (cc0_scratch2.slice (Rect.unit (s := S6) (semOff s) S1.size (semOff_inb s))).squeeze S_ squeezes_S1_S_
/-- The semaphore of slot `s` of the writing ring. -/
def wC (s : Fin 6) : DmaSems sig S_ := (cc0_scratch3.slice (Rect.unit (s := S6) (semOff s) S1.size (semOff_inb s))).squeeze S_ squeezes_S1_S_

instance (b : Fin 128) : ClosedOff (blkOff b) := ⟨blkOff b, rfl⟩
instance (s : Fin 6) : ClosedOff (slotOff s) := ⟨slotOff s, rfl⟩

/-! ## The body's offsets in those terms -/

/-- The number of a grid point. -/
abbrev tN (i : grid0.Coords) : ℕ := (i 0).val
/-- The grid has 128 points. -/
theorem tN_lt (i : grid0.Coords) : tN i < 128 := (i 0).isLt

/-- The conditions the body tests, as the point's number says them. -/
theorem cond1_iff : ∀ i : grid0.Coords, (Scalar.cmpi .ne (Scalar.extui (Scalar.cmpi .eq (BitVec.ofNat 32 (i 0).val) 0#32) : BitVec 32) 0#32 = 1#1) ↔ (i 0).val = 0 := by decide +kernel
/-- From point six on there is a block on its way out to wait for. -/
theorem cond2_iff : ∀ i : grid0.Coords, k0_cond2 i = 1#1 ↔ 6 ≤ (i 0).val := by decide +kernel
/-- Until six before the end there is a block to fetch. -/
theorem cond3_iff : ∀ i : grid0.Coords, k0_cond3 i = 1#1 ↔ (i 0).val + 6 < 128 := by decide +kernel
/-- At the last point the writing ring is drained. -/
theorem cond4_iff : ∀ i : grid0.Coords, k0_cond4 i = 1#1 ↔ (i 0).val = 127 := by decide +kernel

section Offsets
variable (i : grid0.Coords)

private theorem sl_val (k : ℕ) : (Ring.sl 6 k).val = k % 6 := rfl
private theorem sem_eq {k : ℕ} : (![k % 6] : Fin 1 → Nat) = semOff (Ring.sl 6 k) := rfl
private theorem slot_eq {k : ℕ} : (![k % 6, 0, 0] : Fin 3 → Nat) = slotOff (Ring.sl 6 k) := rfl
private theorem blk_eq {j k : ℕ} (hk : k < 128) (h : j = 8 * k) : (![j, 0] : Fin 2 → Nat) = blkOff (Ring.bk 128 k) := by
  subst h; unfold blkOff; rw [Ring.bk_val hk]

/-- The result block waited for at a point from six on is the one six points back. -/
theorem off5_val : ∀ i : grid0.Coords, k0_cond2 i = 1#1 → k0_off5 i = ![8 * ((i 0).val - 6), 0] := by decide +kernel
/-- The same, as a block's offset. -/
theorem off5_eq (h : 6 ≤ tN i) : k0_off5 i = blkOff (Ring.bk 128 (tN i - 6)) :=
  (off5_val i ((cond2_iff i).2 h)).trans (blk_eq (by have := tN_lt i; omega) rfl)
/-- The operand's block waited for is the point's. -/
theorem off3_eq : k0_off3 i = blkOff (Ring.bk 128 (tN i)) := (k0_off3_eq i).trans (blk_eq (tN_lt i) rfl)
/-- The block fetched is six points on. -/
theorem off10_eq (h : tN i + 6 < 128) : k0_off10 i = blkOff (Ring.bk 128 (tN i + 6)) := (k0_off10_eq i).trans (blk_eq h (by unfold tN; omega))
/-- The last point's own block, waited for at the end, is the point's. -/
theorem off15_eq : k0_off15 i = blkOff (Ring.bk 128 (tN i)) := (k0_off15_eq i).trans (blk_eq (tN_lt i) rfl)

/-- The blocks, slots and semaphores the last point drains, five of them behind it. -/
theorem drain12 : ∀ i : grid0.Coords, (i 0).val = 127 →
    k0_off12 i 5#32 = blkOff 122 ∧ k0_off12 i 4#32 = blkOff 123 ∧ k0_off12 i 3#32 = blkOff 124 ∧ k0_off12 i 2#32 = blkOff 125 ∧ k0_off12 i 1#32 = blkOff 126 := by
  decide +kernel
/-- The counters that it waits on. -/
theorem drain11 : ∀ i : grid0.Coords, (i 0).val = 127 →
    k0_off11 i 5#32 = semOff 2 ∧ k0_off11 i 4#32 = semOff 3 ∧ k0_off11 i 3#32 = semOff 4 ∧ k0_off11 i 2#32 = semOff 5 ∧ k0_off11 i 1#32 = semOff 0 := by
  decide +kernel
/-- The slots that it drains. -/
theorem drain13 : ∀ i : grid0.Coords, (i 0).val = 127 →
    k0_off13 i 5#32 = slotOff 2 ∧ k0_off13 i 4#32 = slotOff 3 ∧ k0_off13 i 3#32 = slotOff 4 ∧ k0_off13 i 2#32 = slotOff 5 ∧ k0_off13 i 1#32 = slotOff 0 := by
  decide +kernel

end Offsets

/-! ## The slices by name -/

section Canon
variable (i : grid0.Coords)

private theorem rC_of {off : Fin 1 → Nat} {s : Fin 6} (e : off = semOff s) (hh) :
    (cc0_scratch2.slice (Rect.unit (s := S6) off S1.size hh)).squeeze S_ squeezes_S1_S_ = rC s :=
  congrArg (fun A : DmaSems sig S1 => A.squeeze S_ squeezes_S1_S_) (SemArray.slice_unit_congr _ e _ _)
private theorem wC_of {off : Fin 1 → Nat} {s : Fin 6} (e : off = semOff s) (hh) :
    (cc0_scratch3.slice (Rect.unit (s := S6) off S1.size hh)).squeeze S_ squeezes_S1_S_ = wC s :=
  congrArg (fun A : DmaSems sig S1 => A.squeeze S_ squeezes_S1_S_) (SemArray.slice_unit_congr _ e _ _)
private theorem rS_of {off : Fin 3 → Nat} {s : Fin 6} (e : off = slotOff s) (hh hs) :
    (rM.slice (Rect.unit (s := S6x8x100000) off S1x8x100000.size hh) hs).squeeze S8x100000 squeezes_S1x8x100000_S8x100000 = rS s :=
  congrArg (fun M : Memref sig .tc .vmem S1x8x100000 .f32 => M.squeeze S8x100000 squeezes_S1x8x100000_S8x100000) (Memref.slice_unit_congr _ e _ _ _ _)
private theorem wS_of {off : Fin 3 → Nat} {s : Fin 6} (e : off = slotOff s) (hh hs) :
    (wM.slice (Rect.unit (s := S6x8x100000) off S1x8x100000.size hh) hs).squeeze S8x100000 squeezes_S1x8x100000_S8x100000 = wS s :=
  congrArg (fun M : Memref sig .tc .vmem S1x8x100000 .f32 => M.squeeze S8x100000 squeezes_S1x8x100000_S8x100000) (Memref.slice_unit_congr _ e _ _ _ _)
private theorem xB_of {off : Fin 2 → Nat} {b : Fin 128} (e : off = blkOff b) (hh hs) :
    xM.slice (Rect.unit (s := S1024x100000) off S8x100000.size hh) hs = xB b := Memref.slice_unit_congr _ e _ _ _ (fun _ => rfl)
private theorem yB_of {off : Fin 2 → Nat} {b : Fin 128} (e : off = blkOff b) (hh hs) :
    yM.slice (Rect.unit (s := S1024x100000) off S8x100000.size hh) hs = yB b := Memref.slice_unit_congr _ e _ _ _ (fun _ => rfl)

/-! The first point's literal slices. -/

@[sl_canon] theorem rC_0 (hh) : (cc0_scratch2.slice (Rect.unit (s := S6) ![0] S1.size hh)).squeeze S_ squeezes_S1_S_ = rC 0 := rC_of (by decide) _
@[sl_canon] theorem rC_1 (hh) : (cc0_scratch2.slice (Rect.unit (s := S6) ![1] S1.size hh)).squeeze S_ squeezes_S1_S_ = rC 1 := rC_of (by decide) _
@[sl_canon] theorem rC_2 (hh) : (cc0_scratch2.slice (Rect.unit (s := S6) ![2] S1.size hh)).squeeze S_ squeezes_S1_S_ = rC 2 := rC_of (by decide) _
@[sl_canon] theorem rC_3 (hh) : (cc0_scratch2.slice (Rect.unit (s := S6) ![3] S1.size hh)).squeeze S_ squeezes_S1_S_ = rC 3 := rC_of (by decide) _
@[sl_canon] theorem rC_4 (hh) : (cc0_scratch2.slice (Rect.unit (s := S6) ![4] S1.size hh)).squeeze S_ squeezes_S1_S_ = rC 4 := rC_of (by decide) _
@[sl_canon] theorem rC_5 (hh) : (cc0_scratch2.slice (Rect.unit (s := S6) ![5] S1.size hh)).squeeze S_ squeezes_S1_S_ = rC 5 := rC_of (by decide) _
@[sl_canon] theorem rS_0 (hh hs) : (rM.slice (Rect.unit (s := S6x8x100000) ![0, 0, 0] S1x8x100000.size hh) hs).squeeze S8x100000 squeezes_S1x8x100000_S8x100000 = rS 0 := rS_of (by decide) _ _
@[sl_canon] theorem rS_1 (hh hs) : (rM.slice (Rect.unit (s := S6x8x100000) ![1, 0, 0] S1x8x100000.size hh) hs).squeeze S8x100000 squeezes_S1x8x100000_S8x100000 = rS 1 := rS_of (by decide) _ _
@[sl_canon] theorem rS_2 (hh hs) : (rM.slice (Rect.unit (s := S6x8x100000) ![2, 0, 0] S1x8x100000.size hh) hs).squeeze S8x100000 squeezes_S1x8x100000_S8x100000 = rS 2 := rS_of (by decide) _ _
@[sl_canon] theorem rS_3 (hh hs) : (rM.slice (Rect.unit (s := S6x8x100000) ![3, 0, 0] S1x8x100000.size hh) hs).squeeze S8x100000 squeezes_S1x8x100000_S8x100000 = rS 3 := rS_of (by decide) _ _
@[sl_canon] theorem rS_4 (hh hs) : (rM.slice (Rect.unit (s := S6x8x100000) ![4, 0, 0] S1x8x100000.size hh) hs).squeeze S8x100000 squeezes_S1x8x100000_S8x100000 = rS 4 := rS_of (by decide) _ _
@[sl_canon] theorem rS_5 (hh hs) : (rM.slice (Rect.unit (s := S6x8x100000) ![5, 0, 0] S1x8x100000.size hh) hs).squeeze S8x100000 squeezes_S1x8x100000_S8x100000 = rS 5 := rS_of (by decide) _ _
@[sl_canon] theorem xB_0 (hh hs) : xM.slice (Rect.unit (s := S1024x100000) ![0, 0] S8x100000.size hh) hs = xB 0 := xB_of (by decide) _ _
@[sl_canon] theorem xB_1 (hh hs) : xM.slice (Rect.unit (s := S1024x100000) ![8, 0] S8x100000.size hh) hs = xB 1 := xB_of (by decide) _ _
@[sl_canon] theorem xB_2 (hh hs) : xM.slice (Rect.unit (s := S1024x100000) ![16, 0] S8x100000.size hh) hs = xB 2 := xB_of (by decide) _ _
@[sl_canon] theorem xB_3 (hh hs) : xM.slice (Rect.unit (s := S1024x100000) ![24, 0] S8x100000.size hh) hs = xB 3 := xB_of (by decide) _ _
@[sl_canon] theorem xB_4 (hh hs) : xM.slice (Rect.unit (s := S1024x100000) ![32, 0] S8x100000.size hh) hs = xB 4 := xB_of (by decide) _ _
@[sl_canon] theorem xB_5 (hh hs) : xM.slice (Rect.unit (s := S1024x100000) ![40, 0] S8x100000.size hh) hs = xB 5 := xB_of (by decide) _ _

/-! Every point's own slices. -/

@[sl_canon] theorem rC_w (hh) : (cc0_scratch2.slice (Rect.unit (s := S6) (k0_off1 i) S1.size hh)).squeeze S_ squeezes_S1_S_ = rC (Ring.sl 6 (tN i)) := rC_of (k0_off1_eq i) _
@[sl_canon] theorem wC_i (hh) : (cc0_scratch3.slice (Rect.unit (s := S6) (k0_off1 i) S1.size hh)).squeeze S_ squeezes_S1_S_ = wC (Ring.sl 6 (tN i)) := wC_of (k0_off1_eq i) _
@[sl_canon] theorem wC_w (hh) : (cc0_scratch3.slice (Rect.unit (s := S6) (k0_off4 i) S1.size hh)).squeeze S_ squeezes_S1_S_ = wC (Ring.sl 6 (tN i)) := wC_of (k0_off4_eq i) _
@[sl_canon] theorem rC_i (hh) : (cc0_scratch2.slice (Rect.unit (s := S6) (k0_off8 i) S1.size hh)).squeeze S_ squeezes_S1_S_ = rC (Ring.sl 6 (tN i)) := rC_of (k0_off8_eq i) _
@[sl_canon] theorem wC_l (hh) : (cc0_scratch3.slice (Rect.unit (s := S6) (k0_off14 i) S1.size hh)).squeeze S_ squeezes_S1_S_ = wC (Ring.sl 6 (tN i)) := wC_of (k0_off14_eq i) _
@[sl_canon] theorem rS_w (hh hs) : (rM.slice (Rect.unit (s := S6x8x100000) (k0_off2 i) S1x8x100000.size hh) hs).squeeze S8x100000 squeezes_S1x8x100000_S8x100000 = rS (Ring.sl 6 (tN i)) := rS_of (k0_off2_eq i) _ _
@[sl_canon] theorem wS_i (hh hs) : (wM.slice (Rect.unit (s := S6x8x100000) (k0_off2 i) S1x8x100000.size hh) hs).squeeze S8x100000 squeezes_S1x8x100000_S8x100000 = wS (Ring.sl 6 (tN i)) := wS_of (k0_off2_eq i) _ _
@[sl_canon] theorem wS_w (hh hs) : (wM.slice (Rect.unit (s := S6x8x100000) (k0_off6 i) S1x8x100000.size hh) hs).squeeze S8x100000 squeezes_S1x8x100000_S8x100000 = wS (Ring.sl 6 (tN i)) := wS_of (k0_off6_eq i) _ _
@[sl_canon] theorem rS_i (hh hs) : (rM.slice (Rect.unit (s := S6x8x100000) (k0_off9 i) S1x8x100000.size hh) hs).squeeze S8x100000 squeezes_S1x8x100000_S8x100000 = rS (Ring.sl 6 (tN i)) := rS_of (k0_off9_eq i) _ _
@[sl_canon] theorem wS_l (hh hs) : (wM.slice (Rect.unit (s := S6x8x100000) (k0_off16 i) S1x8x100000.size hh) hs).squeeze S8x100000 squeezes_S1x8x100000_S8x100000 = wS (Ring.sl 6 (tN i)) := wS_of (k0_off16_eq i) _ _
@[sl_canon] theorem xB_w (hh hs) : xM.slice (Rect.unit (s := S1024x100000) (k0_off3 i) S8x100000.size hh) hs = xB (Ring.bk 128 (tN i)) := xB_of (off3_eq i) _ _
@[sl_canon] theorem yB_i (hh hs) : yM.slice (Rect.unit (s := S1024x100000) (k0_off3 i) S8x100000.size hh) hs = yB (Ring.bk 128 (tN i)) := yB_of (off3_eq i) _ _
@[sl_canon] theorem yB_w (h : 6 ≤ tN i) (hh hs) : yM.slice (Rect.unit (s := S1024x100000) (k0_off5 i) S8x100000.size hh) hs = yB (Ring.bk 128 (tN i - 6)) := yB_of (off5_eq i h) _ _
@[sl_canon] theorem xB_i (h : tN i + 6 < 128) (hh hs) : xM.slice (Rect.unit (s := S1024x100000) (k0_off10 i) S8x100000.size hh) hs = xB (Ring.bk 128 (tN i + 6)) := xB_of (off10_eq i h) _ _
@[sl_canon] theorem yB_l (hh hs) : yM.slice (Rect.unit (s := S1024x100000) (k0_off15 i) S8x100000.size hh) hs = yB (Ring.bk 128 (tN i)) := yB_of (off15_eq i) _ _

/-! The last point's drain. -/

@[sl_canon] theorem wC_d5 (h : tN i = 127) (hh) : (cc0_scratch3.slice (Rect.unit (s := S6) (k0_off11 i 5#32) S1.size hh)).squeeze S_ squeezes_S1_S_ = wC 2 := wC_of (drain11 i h).1 _
@[sl_canon] theorem wC_d4 (h : tN i = 127) (hh) : (cc0_scratch3.slice (Rect.unit (s := S6) (k0_off11 i 4#32) S1.size hh)).squeeze S_ squeezes_S1_S_ = wC 3 := wC_of (drain11 i h).2.1 _
@[sl_canon] theorem wC_d3 (h : tN i = 127) (hh) : (cc0_scratch3.slice (Rect.unit (s := S6) (k0_off11 i 3#32) S1.size hh)).squeeze S_ squeezes_S1_S_ = wC 4 := wC_of (drain11 i h).2.2.1 _
@[sl_canon] theorem wC_d2 (h : tN i = 127) (hh) : (cc0_scratch3.slice (Rect.unit (s := S6) (k0_off11 i 2#32) S1.size hh)).squeeze S_ squeezes_S1_S_ = wC 5 := wC_of (drain11 i h).2.2.2.1 _
@[sl_canon] theorem wC_d1 (h : tN i = 127) (hh) : (cc0_scratch3.slice (Rect.unit (s := S6) (k0_off11 i 1#32) S1.size hh)).squeeze S_ squeezes_S1_S_ = wC 0 := wC_of (drain11 i h).2.2.2.2 _
@[sl_canon] theorem wS_d5 (h : tN i = 127) (hh hs) : (wM.slice (Rect.unit (s := S6x8x100000) (k0_off13 i 5#32) S1x8x100000.size hh) hs).squeeze S8x100000 squeezes_S1x8x100000_S8x100000 = wS 2 := wS_of (drain13 i h).1 _ _
@[sl_canon] theorem wS_d4 (h : tN i = 127) (hh hs) : (wM.slice (Rect.unit (s := S6x8x100000) (k0_off13 i 4#32) S1x8x100000.size hh) hs).squeeze S8x100000 squeezes_S1x8x100000_S8x100000 = wS 3 := wS_of (drain13 i h).2.1 _ _
@[sl_canon] theorem wS_d3 (h : tN i = 127) (hh hs) : (wM.slice (Rect.unit (s := S6x8x100000) (k0_off13 i 3#32) S1x8x100000.size hh) hs).squeeze S8x100000 squeezes_S1x8x100000_S8x100000 = wS 4 := wS_of (drain13 i h).2.2.1 _ _
@[sl_canon] theorem wS_d2 (h : tN i = 127) (hh hs) : (wM.slice (Rect.unit (s := S6x8x100000) (k0_off13 i 2#32) S1x8x100000.size hh) hs).squeeze S8x100000 squeezes_S1x8x100000_S8x100000 = wS 5 := wS_of (drain13 i h).2.2.2.1 _ _
@[sl_canon] theorem wS_d1 (h : tN i = 127) (hh hs) : (wM.slice (Rect.unit (s := S6x8x100000) (k0_off13 i 1#32) S1x8x100000.size hh) hs).squeeze S8x100000 squeezes_S1x8x100000_S8x100000 = wS 0 := wS_of (drain13 i h).2.2.2.2 _ _
@[sl_canon] theorem yB_d5 (h : tN i = 127) (hh hs) : yM.slice (Rect.unit (s := S1024x100000) (k0_off12 i 5#32) S8x100000.size hh) hs = yB 122 := yB_of (drain12 i h).1 _ _
@[sl_canon] theorem yB_d4 (h : tN i = 127) (hh hs) : yM.slice (Rect.unit (s := S1024x100000) (k0_off12 i 4#32) S8x100000.size hh) hs = yB 123 := yB_of (drain12 i h).2.1 _ _
@[sl_canon] theorem yB_d3 (h : tN i = 127) (hh hs) : yM.slice (Rect.unit (s := S1024x100000) (k0_off12 i 3#32) S8x100000.size hh) hs = yB 124 := yB_of (drain12 i h).2.2.1 _ _
@[sl_canon] theorem yB_d2 (h : tN i = 127) (hh hs) : yM.slice (Rect.unit (s := S1024x100000) (k0_off12 i 2#32) S8x100000.size hh) hs = yB 125 := yB_of (drain12 i h).2.2.2.1 _ _
@[sl_canon] theorem yB_d1 (h : tN i = 127) (hh hs) : yM.slice (Rect.unit (s := S1024x100000) (k0_off12 i 1#32) S8x100000.size hh) hs = yB 126 := yB_of (drain12 i h).2.2.2.2 _ _

end Canon

/-! ## The elements each part is -/

/-- The elements of block `b`. -/
abbrev blkSet (b : Fin 128) : Finset S1024x100000.Idx := (Rect.unit (s := S1024x100000) (blkOff b) S8x100000.size (blkOff_inb b)).set
/-- The elements of slot `s`. -/
abbrev slotSet (s : Fin 6) : Finset S6x8x100000.Idx := (Rect.unit (s := S6x8x100000) (slotOff s) S1x8x100000.size (slotOff_inb s)).set

/-- Block `b` of the operand covers the elements of block `b`; -/
theorem xB_set (b : Fin 128) : (xB b : Memref sig .tc .hbm _ _).view.set = blkSet b := View.set_slice_whole _ _
/-- so does block `b` of the result. -/
theorem yB_set (b : Fin 128) : (yB b : Memref sig .tc .hbm _ _).view.set = blkSet b := View.set_slice_whole _ _
/-- Slot `s` of the reading ring covers the elements of slot `s`; -/
theorem rS_set (s : Fin 6) : (rS s : Memref sig .tc .vmem _ _).view.set = slotSet s := (View.set_reshape _ _).trans (View.set_slice_whole _ _)
/-- so does slot `s` of the writing ring. -/
theorem wS_set (s : Fin 6) : (wS s : Memref sig .tc .vmem _ _).view.set = slotSet s := (View.set_reshape _ _).trans (View.set_slice_whole _ _)

/-- An element lies in block `b` when its row does. -/
theorem mem_blkSet (b : Fin 128) (y : S1024x100000.Idx) : y ∈ blkSet b ↔ (y 0).val / 8 = b.val := by
  rw [Rect.mem_set_unit]
  have h1 : (y 1).val < 100000 := (y 1).isLt
  constructor
  · intro H; have a0 : 8 * b.val ≤ (y 0).val ∧ (y 0).val < 8 * b.val + 8 := H 0; omega
  · intro H k; fin_cases k
    · show 8 * b.val ≤ (y 0).val ∧ (y 0).val < 8 * b.val + 8; omega
    · show 0 ≤ (y 1).val ∧ (y 1).val < 0 + 100000; omega
/-- An element lies in slot `s` when its first coordinate is `s`. -/
theorem mem_slotSet (s : Fin 6) (y : S6x8x100000.Idx) : y ∈ slotSet s ↔ (y 0).val = s.val := by
  rw [Rect.mem_set_unit]
  have h1 : (y 1).val < 8 := (y 1).isLt
  have h2 : (y 2).val < 100000 := (y 2).isLt
  constructor
  · intro H; have a0 : s.val ≤ (y 0).val ∧ (y 0).val < s.val + 1 := H 0; omega
  · intro H k; fin_cases k
    · show s.val ≤ (y 0).val ∧ (y 0).val < s.val + 1; omega
    · show 0 ≤ (y 1).val ∧ (y 1).val < 0 + 8; omega
    · show 0 ≤ (y 2).val ∧ (y 2).val < 0 + 100000; omega
/-- Different blocks share no element, -/
theorem blkSet_disjoint : ∀ b b' : Fin 128, b ≠ b' → Disjoint (blkSet b) (blkSet b') := by
  intro b b' hne; rw [Finset.disjoint_left]; intro y hy hy'; rw [mem_blkSet] at hy hy'; exact hne (Fin.ext (hy.symm.trans hy'))
/-- and every element is in one. -/
theorem blkSet_cover : (Finset.univ : Finset (Fin 128)).biUnion blkSet = Finset.univ := by
  ext y; simp only [Finset.mem_biUnion, Finset.mem_univ, true_and, iff_true]
  have h : (y 0).val < 1024 := (y 0).isLt
  exact ⟨⟨(y 0).val / 8, by omega⟩, by rw [mem_blkSet]⟩
/-- Different slots share no element, -/
theorem slotSet_disjoint : ∀ s s' : Fin 6, s ≠ s' → Disjoint (slotSet s) (slotSet s') := by
  intro s s' hne; rw [Finset.disjoint_left]; intro y hy hy'; rw [mem_slotSet] at hy hy'; exact hne (Fin.ext (hy.symm.trans hy'))
/-- and every element is in one. -/
theorem slotSet_cover : (Finset.univ : Finset (Fin 6)).biUnion slotSet = Finset.univ := by
  ext y; simp only [Finset.mem_biUnion, Finset.mem_univ, true_and, iff_true]; exact ⟨(y 0).cast (by decide), by rw [mem_slotSet]; rfl⟩

/-- The rectangle the body loads and stores is the point's slot. -/
theorem off7_set (i : grid0.Coords) : (Rect.unit (s := S6x8x100000) (k0_off7 i) S1x8x100000.size (k0_off7_inb i)).set = slotSet (Ring.sl 6 (tN i)) := by
  ext y; rw [mem_slotSet, Rect.mem_set_unit, k0_off7_eq i]
  have h1 : (y 1).val < 8 := (y 1).isLt
  have h2 : (y 2).val < 100000 := (y 2).isLt
  show _ ↔ (y 0).val = tN i % 6
  constructor
  · intro H; have a0 : tN i % 6 ≤ (y 0).val ∧ (y 0).val < tN i % 6 + 1 := H 0; omega
  · intro H k; fin_cases k
    · show tN i % 6 ≤ (y 0).val ∧ (y 0).val < tN i % 6 + 1; omega
    · show 0 ≤ (y 1).val ∧ (y 1).val < 0 + 8; omega
    · show 0 ≤ (y 2).val ∧ (y 2).val < 0 + 100000; omega
/-- What the body loads lies in the point's slot of the reading ring, -/
theorem rM_sub (i : grid0.Coords) : (rM.access (Rect.unit (s := S6x8x100000) (k0_off7 i) S1x8x100000.size (k0_off7_inb i))).set ⊆ (rS (Ring.sl 6 (tN i))).view.set := by
  rw [rS_set, ← off7_set]; exact subset_of_eq (View.set_slice_whole _ _)
/-- and what it stores in the point's slot of the writing ring. -/
theorem wM_sub (i : grid0.Coords) : (wM.access (Rect.unit (s := S6x8x100000) (k0_off7 i) S1x8x100000.size (k0_off7_inb i))).set ⊆ (wS (Ring.sl 6 (tN i))).view.set := by
  rw [wS_set, ← off7_set]; exact subset_of_eq (View.set_slice_whole _ _)

end Cert.Proof.Bern

end
-- ==== Proof.Body.lean ====
/-
  The body at one grid point, in each of the cases its conditions tell apart.
-/
module

public import proofs.«01_k».proof.Proof.Names

@[expose] public section

noncomputable section

namespace Cert.Proof.Bern

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The algebra of the proof: the pipeline's, and the counters'. -/
abbrev UU : Type := UR sig nD τ × Counters
local notation "𝕄" => MT nD τ sig Unit (Elt F) ℕ UU ℕ
/-- No loop of the proof takes a variant. -/
abbrev 𝒱₀ : Variants := Variants.none

section Pieces
variable (c : Dev nD) (X : Buf (Elt F) (xM.view.loc (c : Thread nD τ))) (V : Buf (Elt F) (yM.view.loc (c : Thread nD τ)))

/-- The counter of the reading ring's slot `s`, at zero; -/
abbrev rCell (s : Fin 6) : sProp 𝕄 := semVal ((c : Thread nD τ), SemLoc.dma (rC s).sem) 0
/-- and of the writing ring's. -/
abbrev wCell (s : Fin 6) : sProp 𝕄 := semVal ((c : Thread nD τ), SemLoc.dma (wC s).sem) 0
/-- Slot `s` of the reading ring, holding `f`; -/
abbrev rSlot (s : Fin 6) (f : Buf (Elt F) ((rS s).view.loc (c : Thread nD τ))) : sProp 𝕄 :=
  (rS s).view.loc (c : Thread nD τ) ↦[(rS s).view.set]{fullShare} f
/-- and of the writing ring. -/
abbrev wSlot (s : Fin 6) (f : Buf (Elt F) ((wS s).view.loc (c : Thread nD τ))) : sProp 𝕄 :=
  (wS s).view.loc (c : Thread nD τ) ↦[(wS s).view.set]{fullShare} f
/-- Block `b` of the operand; -/
abbrev xP (b : Fin 128) : sProp 𝕄 := (xB b).view.loc (c : Thread nD τ) ↦[(xB b).view.set]{fullShare} X
/-- and of the result, holding `f`. -/
abbrev yP (b : Fin 128) (f : Buf (Elt F) ((yB b).view.loc (c : Thread nD τ))) : sProp 𝕄 :=
  (yB b).view.loc (c : Thread nD τ) ↦[(yB b).view.set]{fullShare} f
/-- What slot `s` holds once block `b` of the operand has landed in it. -/
abbrev rLand (s : Fin 6) (b : Fin 128) (f : Buf (Elt F) ((rS s).view.loc (c : Thread nD τ))) : Buf (Elt F) ((rS s).view.loc (c : Thread nD τ)) :=
  (rS s).view.writes (Elt F) f [⟨Rect.whole S8x100000, ReadAs.same.apply ((xB b).view.read (Elt F) X)⟩]
/-- The credit that one block's copy is worth. -/
abbrev NN : ℕ := 100096
/-- Block `b` of the operand on its way into slot `s`. -/
abbrev rFly (s : Fin 6) (b : Fin 128) (f : Buf (Elt F) ((rS s).view.loc (c : Thread nD τ))) : sProp 𝕄 :=
  Transfers.Flight countersEmb (c : Thread nD τ) (SemLoc.dma (rC s).sem) () NN iprop(rSlot c s (rLand c X s b f) ∗ xP c X b)
/-- What block `b` of the result holds once `w` has landed in it. -/
abbrev yLand (b : Fin 128) (w : S8x100000.Idx → Elt F .f32) : Buf (Elt F) ((yB b).view.loc (c : Thread nD τ)) :=
  (yB b).view.writes (Elt F) V [⟨Rect.whole S8x100000, w⟩]
/-- The contents `w` of slot `s` on their way to block `b` of the result. -/
abbrev wFly (s : Fin 6) (b : Fin 128) (w : S8x100000.Idx → Elt F .f32) (f : Buf (Elt F) ((wS s).view.loc (c : Thread nD τ))) : sProp 𝕄 :=
  Transfers.Flight countersEmb (c : Thread nD τ) (SemLoc.dma (wC s).sem) () NN iprop(yP c b (yLand c V b w) ∗ wSlot c s f)

/-- Block `b`'s grid point. -/
def pt (b : Fin 128) : grid0.Coords := fun | ⟨0, _⟩ => ⟨b.val, b.isLt⟩
/-- A point is the one its own block names. -/
theorem pt_bk (i : grid0.Coords) : pt (Ring.bk 128 (tN i)) = i :=
  funext fun | ⟨0, _⟩ => Fin.ext (show (Ring.bk 128 (tN i)).val = (i 0).val from Ring.bk_val (tN_lt i))

/-- What the body computes at a point from the block it has read. -/
def outV (i : grid0.Coords) (x : FVec F S8x100000 .f32) : FVec F S8x100000 .f32 :=
  have v75 := k0_pay14 466689008#32 (k0_pay3 i) (k0_pay4 i) 15#32
  have v81 := k0_pay15 466689008#32 (k0_pay3 i) (k0_pay4 i) 15#32
  have v124 := k0_pay25 466689008#32 v75 v81
  have v126 := k0_pay26 466689008#32 v75 v81
  shapeCast S8x100000 (k0_pay40 x 466689008#32 (k0_pay37 466689008#32 v124 v126 3#32) (k0_pay38 466689008#32 v124 v126 3#32) (k0_pay39 466689008#32 v124 v126 3#32) 17#32)
    shapeCasts_S1x8x100000_S8x100000
/-- Block `b` of the result. -/
def outB (b : Fin 128) : S8x100000.Idx → Elt F .f32 := outV (pt b) ((xB b).view.read (Elt F) X)

/-- The body on the launch's buffers at grid point `i`. -/
abbrev bodyG (i : grid0.Coords) : Prog (TpuEff nD τ sig (Elt F) Λ₀ .tc) PUnit :=
  cc0__bernoulli_block i xM (Memref.isWhole_whole _) yM (Memref.isWhole_whole _) rM (Memref.isWhole_whole _) wM (Memref.isWhole_whole _) cc0_scratch2 cc0_scratch3

end Pieces

/-! ## Reading and storing a slot through its ring -/

/-- The rectangle the body loads and stores at point `i`. -/
abbrev rect7 (i : grid0.Coords) : Rect S6x8x100000 := Rect.unit (s := S6x8x100000) (k0_off7 i) S1x8x100000.size (k0_off7_inb i)

set_option maxRecDepth 8192 in
/-- A load at a slot's offset reads what has landed in the slot. -/
theorem load_slot_of (c : Dev nD) (s : Fin 6) {off : Fin 3 → Nat} (e : off = slotOff s) (hh) (f : Buf (Elt F) ((rS s).view.loc (c : Thread nD τ))) (x : S8x100000.Idx → Elt F .f32) :
    k0_pay1 (F := F) (rM.view.readAt (Elt F) (Rect.unit (s := S6x8x100000) off S1x8x100000.size hh).toLoadRect ((rS s).view.writes (Elt F) f [⟨Rect.whole S8x100000, x⟩])) = x := by
  subst e; funext y; exact congrFun (View.read_writes_whole (rS s).view f x) y
/-- A store at a slot's offset leaves in the slot what is stored. -/
theorem store_slot_of (c : Dev nD) (s : Fin 6) {off : Fin 3 → Nat} (e : off = slotOff s) (hh) (f : Buf (Elt F) ((wS s).view.loc (c : Thread nD τ))) (p : S1x8x100000.Idx → Elt F .f32) :
    (wS s).view.read (Elt F) ((wM.access (Rect.unit (s := S6x8x100000) off S1x8x100000.size hh)).write (Elt F) f p Finset.univ) = shapeCast S8x100000 p shapeCasts_S1x8x100000_S8x100000 := by
  subst e; funext y
  exact congrFun (View.read_write_univ (v := wM.access (Rect.unit (s := S6x8x100000) (slotOff s) S1x8x100000.size hh)) f p) (Shape.reshapeEquiv shapeCasts_S1x8x100000_S8x100000 y)
/-- Reading the point's slot of the reading ring through the ring gives the block that landed there. -/
theorem load_slot (c : Dev nD) (i : grid0.Coords) (f : Buf (Elt F) ((rS (Ring.sl 6 (tN i))).view.loc (c : Thread nD τ))) (x : S8x100000.Idx → Elt F .f32) :
    k0_pay1 (F := F) (rM.view.readAt (Elt F) (rect7 i).toLoadRect ((rS (Ring.sl 6 (tN i))).view.writes (Elt F) f [⟨Rect.whole S8x100000, x⟩])) = x :=
  load_slot_of c _ (k0_off7_eq i) _ f x
/-- What the point's store through the writing ring leaves in the slot. -/
theorem store_slot (c : Dev nD) (i : grid0.Coords) (f : Buf (Elt F) ((wS (Ring.sl 6 (tN i))).view.loc (c : Thread nD τ))) (p : S1x8x100000.Idx → Elt F .f32) :
    (wS (Ring.sl 6 (tN i))).view.read (Elt F) ((wM.access (rect7 i)).write (Elt F) f p Finset.univ) = shapeCast S8x100000 p shapeCasts_S1x8x100000_S8x100000 :=
  store_slot_of c _ (k0_off7_eq i) _ f p

section Runs
variable (c : Dev nD) (X : Buf (Elt F) (xM.view.loc (c : Thread nD τ))) (V : Buf (Elt F) (yM.view.loc (c : Thread nD τ)))
  (i : grid0.Coords)

/-- What the point leaves in its slot of the writing ring, over whatever the slots held, is block `b` of the result. -/
theorem stored_eq {s : Fin 6} {b : Fin 128} (hs : s = Ring.sl 6 (tN i)) (hb : b = Ring.bk 128 (tN i))
    (f : Buf (Elt F) ((rS s).view.loc (c : Thread nD τ))) (g : Buf (Elt F) ((wS s).view.loc (c : Thread nD τ)))
    (p : S1x8x100000.Idx → Elt F .f32)
    (hp : shapeCast S8x100000 p shapeCasts_S1x8x100000_S8x100000
      = outV i (k0_pay1 (rM.view.readAt (Elt F) (rect7 i).toLoadRect ((rS s).view.writes (Elt F) f
          [⟨Rect.whole S8x100000, ReadAs.same.apply ((xB b).view.read (Elt F) X)⟩])))) :
    (wS s).view.read (Elt F) ((wM.access (rect7 i)).write (Elt F) g p Finset.univ) = outB c X b := by
  subst hs hb
  rw [store_slot, hp, load_slot, outB, pt_bk]

/-- The write flight the run issues, its payload as the run reads it off the slot. -/
theorem wFly_of (s : Fin 6) (b : Fin 128) {w w' : S8x100000.Idx → Elt F .f32} (e : w = w') (f : Buf (Elt F) ((wS s).view.loc (c : Thread nD τ))) :
    (wFly c V s b w f : sProp 𝕄) ⊢ iprop(∃ f, wFly c V s b w' f) := by
  subst e; iintro H; iexists f; iexact H

/-- The landed block, its payload as the run reads it off the slot. -/
theorem yP_of {b : Fin 128} {w w' : S8x100000.Idx → Elt F .f32} (e : w = w') : (yP c b (yLand c V b w) : sProp 𝕄) ⊢ yP c b (yLand c V b w') := by
  subst e; exact .rfl

set_option maxRecDepth 8192 in
set_option maxHeartbeats 4000000 in
/-- A point past the first six and before the last six: one block fetched and one written back, in the slots the point frees. -/
theorem run_mid (h6 : 6 ≤ tN i) (h122 : tN i + 6 < 128) (W : Waits sig Unit) (Q : PUnit → sProp 𝕄) :
    iprop(((∃ f, rFly c X (Ring.sl 6 (tN i)) (Ring.bk 128 (tN i)) f) ∗ xP c X (Ring.bk 128 (tN i + 6))
        ∗ (∃ f, wFly c V (Ring.sl 6 (tN i)) (Ring.bk 128 (tN i - 6)) (outB c X (Ring.bk 128 (tN i - 6))) f)
        ∗ yP c (Ring.bk 128 (tN i)) V ∗ owes (c : Thread nD τ) 0 W)
      ∗ (iprop((∃ f, rFly c X (Ring.sl 6 (tN i)) (Ring.bk 128 (tN i + 6)) f) ∗ xP c X (Ring.bk 128 (tN i))
        ∗ (∃ f, wFly c V (Ring.sl 6 (tN i)) (Ring.bk 128 (tN i)) (outB c X (Ring.bk 128 (tN i))) f)
        ∗ yP c (Ring.bk 128 (tN i - 6)) (yLand c V (Ring.bk 128 (tN i - 6)) (outB c X (Ring.bk 128 (tN i - 6)))) ∗ ∃ W, owes (c : Thread nD τ) 0 W) -∗ Q ⟨⟩))
      ⊢ wp frame (wpE (defs₀ (F := F)) 𝒱₀ (c : Thread nD τ) none) Set.univ (bodyG i) Q := by
  have n1 : ¬ (Scalar.cmpi .ne (Scalar.extui (Scalar.cmpi .eq (BitVec.ofNat 32 (i 0).val) 0#32) : BitVec 32) 0#32 = 1#1) := fun h => by have := (cond1_iff i).1 h; unfold tN at h6; omega
  have c2 : k0_cond2 i = 1#1 := (cond2_iff i).2 h6
  have c3 : k0_cond3 i = 1#1 := (cond3_iff i).2 h122
  have n4 : ¬ (k0_cond4 i = 1#1) := fun h => by have := (cond4_iff i).1 h; unfold tN at h122; omega
  have hr := rM_sub i
  have hw := wM_sub i
  iintro ⟨⟨⟨%fr, HR⟩, HX, ⟨%fw, HV⟩, HY, HW⟩, Hk⟩
  dsimp only [bodyG]
  simp only [cc0__bernoulli_block_eq_skeleton]; unfold cc0__bernoulli_block_skel
  simp -proj only [k0_part3_eq_skeleton, k0_part4_eq_skeleton, k0_part5_eq_skeleton, k0_part6_eq_skeleton, k0_part7_eq_skeleton]
  unfold k0_part3_skel k0_part4_skel k0_part5_skel k0_part6_skel k0_part7_skel
  sl_exec (disch := first | sl_exact n1 | sl_exact c2 | sl_exact c3 | sl_exact n4)
  sl_step
  have e : run_mid.sl.dma3 c X i fw = outB c X (Ring.bk 128 (tN i)) := by
    unfold run_mid.sl.dma3 run_mid.sl.HV_src_w1; refine stored_eq c X i rfl rfl (rS (Ring.sl 6 (tN i))).view.junk fw _ ?_
    unfold outV run_mid.sl.v16
    dsimp only

  iapply Hk
  isplitl [HR]; · iexists _; iexact HR
  isplitl [HR_src]; · iexact HR_src
  isplitl [HV]; · iapply (wFly_of c V _ _ e _); iexact HV
  isplitl [HV_dst]; · iexact HV_dst
  iexists _; iexact HW

set_option maxRecDepth 8192 in
set_option maxHeartbeats 4000000 in
/-- A point of the first six past the first: the writing slot has not been used yet. -/
theorem run_lo (h1 : 1 ≤ tN i) (h6 : tN i < 6) (W : Waits sig Unit) (Q : PUnit → sProp 𝕄) :
    iprop(((∃ f, rFly c X (Ring.sl 6 (tN i)) (Ring.bk 128 (tN i)) f) ∗ xP c X (Ring.bk 128 (tN i + 6))
        ∗ (wCell c (Ring.sl 6 (tN i)) ∗ ∃ f, wSlot c (Ring.sl 6 (tN i)) f)
        ∗ yP c (Ring.bk 128 (tN i)) V ∗ owes (c : Thread nD τ) 0 W)
      ∗ (iprop((∃ f, rFly c X (Ring.sl 6 (tN i)) (Ring.bk 128 (tN i + 6)) f) ∗ xP c X (Ring.bk 128 (tN i))
        ∗ (∃ f, wFly c V (Ring.sl 6 (tN i)) (Ring.bk 128 (tN i)) (outB c X (Ring.bk 128 (tN i))) f) ∗ ∃ W, owes (c : Thread nD τ) 0 W) -∗ Q ⟨⟩))
      ⊢ wp frame (wpE (defs₀ (F := F)) 𝒱₀ (c : Thread nD τ) none) Set.univ (bodyG i) Q := by
  have h122 : tN i + 6 < 128 := by omega
  have n1 : ¬ (Scalar.cmpi .ne (Scalar.extui (Scalar.cmpi .eq (BitVec.ofNat 32 (i 0).val) 0#32) : BitVec 32) 0#32 = 1#1) := fun h => by have := (cond1_iff i).1 h; unfold tN at *; omega
  have n2 : ¬ (k0_cond2 i = 1#1) := fun h => by have := (cond2_iff i).1 h; unfold tN at *; omega
  have c3 : k0_cond3 i = 1#1 := (cond3_iff i).2 (by unfold tN at *; omega)
  have n4 : ¬ (k0_cond4 i = 1#1) := fun h => by have := (cond4_iff i).1 h; unfold tN at *; omega
  have hr := rM_sub i
  have hw := wM_sub i
  iintro ⟨⟨⟨%fr, HR⟩, HX, ⟨HV, ⟨%fw, HS⟩⟩, HY, HW⟩, Hk⟩
  dsimp only [bodyG]
  simp only [cc0__bernoulli_block_eq_skeleton]; unfold cc0__bernoulli_block_skel
  simp -proj only [k0_part3_eq_skeleton, k0_part4_eq_skeleton, k0_part5_eq_skeleton, k0_part6_eq_skeleton, k0_part7_eq_skeleton]
  unfold k0_part3_skel k0_part4_skel k0_part5_skel k0_part6_skel k0_part7_skel
  sl_exec (disch := first | sl_exact n1 | sl_exact n2 | sl_exact c3 | sl_exact n4)
  sl_step
  have e : run_lo.sl.dma3 c X i fw = outB c X (Ring.bk 128 (tN i)) := by
    unfold run_lo.sl.dma3 run_lo.sl.HS_w1
    refine stored_eq c X i rfl rfl (rS (Ring.sl 6 (tN i))).view.junk fw _ ?_
    unfold outV run_lo.sl.v16
    dsimp only
  iapply Hk
  isplitl [HR]; · iexists _; iexact HR
  isplitl [HR_src]; · iexact HR_src
  isplitl [HV]; · iapply (wFly_of c V _ _ e _); iexact HV
  iexists _; iexact HW

set_option maxRecDepth 8192 in
set_option maxHeartbeats 4000000 in
/-- A point of the last six before the last: no block is left to fetch. -/
theorem run_hi (h122 : 122 ≤ tN i) (h127 : tN i < 127) (W : Waits sig Unit) (Q : PUnit → sProp 𝕄) :
    iprop(((∃ f, rFly c X (Ring.sl 6 (tN i)) (Ring.bk 128 (tN i)) f)
        ∗ (∃ f, wFly c V (Ring.sl 6 (tN i)) (Ring.bk 128 (tN i - 6)) (outB c X (Ring.bk 128 (tN i - 6))) f)
        ∗ yP c (Ring.bk 128 (tN i)) V ∗ owes (c : Thread nD τ) 0 W)
      ∗ (iprop((rCell c (Ring.sl 6 (tN i)) ∗ ∃ f, rSlot c (Ring.sl 6 (tN i)) f) ∗ xP c X (Ring.bk 128 (tN i))
        ∗ (∃ f, wFly c V (Ring.sl 6 (tN i)) (Ring.bk 128 (tN i)) (outB c X (Ring.bk 128 (tN i))) f)
        ∗ yP c (Ring.bk 128 (tN i - 6)) (yLand c V (Ring.bk 128 (tN i - 6)) (outB c X (Ring.bk 128 (tN i - 6)))) ∗ ∃ W, owes (c : Thread nD τ) 0 W) -∗ Q ⟨⟩))
      ⊢ wp frame (wpE (defs₀ (F := F)) 𝒱₀ (c : Thread nD τ) none) Set.univ (bodyG i) Q := by
  have h6 : 6 ≤ tN i := by omega
  have n1 : ¬ (Scalar.cmpi .ne (Scalar.extui (Scalar.cmpi .eq (BitVec.ofNat 32 (i 0).val) 0#32) : BitVec 32) 0#32 = 1#1) := fun h => by have := (cond1_iff i).1 h; unfold tN at *; omega
  have c2 : k0_cond2 i = 1#1 := (cond2_iff i).2 (by unfold tN at *; omega)
  have n3 : ¬ (k0_cond3 i = 1#1) := fun h => by have := (cond3_iff i).1 h; unfold tN at *; omega
  have n4 : ¬ (k0_cond4 i = 1#1) := fun h => by have := (cond4_iff i).1 h; unfold tN at *; omega
  have hr := rM_sub i
  have hw := wM_sub i
  iintro ⟨⟨⟨%fr, HR⟩, ⟨%fw, HV⟩, HY, HW⟩, Hk⟩
  dsimp only [bodyG]
  simp only [cc0__bernoulli_block_eq_skeleton]; unfold cc0__bernoulli_block_skel
  simp -proj only [k0_part3_eq_skeleton, k0_part4_eq_skeleton, k0_part5_eq_skeleton, k0_part6_eq_skeleton, k0_part7_eq_skeleton]
  unfold k0_part3_skel k0_part4_skel k0_part5_skel k0_part6_skel k0_part7_skel
  sl_exec (disch := first | sl_exact n1 | sl_exact c2 | sl_exact n3 | sl_exact n4)
  sl_step
  have e : run_hi.sl.dma3 c X i fw = outB c X (Ring.bk 128 (tN i)) := by
    unfold run_hi.sl.dma3 run_hi.sl.HV_src_w1
    refine stored_eq c X i rfl rfl (rS (Ring.sl 6 (tN i))).view.junk fw _ ?_
    unfold outV run_hi.sl.v16
    dsimp only
  iapply Hk
  isplitl [HR HR_dst]
  · isplitl [HR]; · iexact HR
    iexists _; iexact HR_dst
  isplitl [HR_src]; · iexact HR_src
  isplitl [HV]; · iapply (wFly_of c V _ _ e _); iexact HV
  isplitl [HV_dst]; · iexact HV_dst
  iexists _; iexact HW

/-! At the first point the point's slot and block are the literal ones the prologue names. -/
/-- The first point's slot is the first. -/
theorem sl_first {i : grid0.Coords} (h : tN i = 0) : Ring.sl 6 (tN i) = 0 := by rw [h]; rfl
/-- The first point's block is the first; -/
theorem bk_first {i : grid0.Coords} (h : tN i = 0) : Ring.bk 128 (tN i) = 0 := by rw [h]; rfl
/-- the one it fetches besides the first six is the seventh. -/
theorem bk6_first {i : grid0.Coords} (h : tN i = 0) : Ring.bk 128 (tN i + 6) = 6 := by rw [h]; rfl

attribute [local sl_canon] sl_first bk_first bk6_first in
set_option maxRecDepth 8192 in
set_option maxHeartbeats 4000000 in
/-- The first point: the six reading slots are filled first. -/
theorem run_first (h0 : tN i = 0) (W : Waits sig Unit) (Q : PUnit → sProp 𝕄) :
    iprop(((rCell c 0 ∗ ∃ f, rSlot c 0 f) ∗ (rCell c 1 ∗ ∃ f, rSlot c 1 f) ∗ (rCell c 2 ∗ ∃ f, rSlot c 2 f)
        ∗ (rCell c 3 ∗ ∃ f, rSlot c 3 f) ∗ (rCell c 4 ∗ ∃ f, rSlot c 4 f) ∗ (rCell c 5 ∗ ∃ f, rSlot c 5 f)
        ∗ xP c X 0 ∗ xP c X 1 ∗ xP c X 2 ∗ xP c X 3 ∗ xP c X 4 ∗ xP c X 5 ∗ xP c X 6
        ∗ (wCell c 0 ∗ ∃ f, wSlot c 0 f) ∗ yP c 0 V ∗ owes (c : Thread nD τ) 0 W)
      ∗ (iprop((∃ f, rFly c X 0 6 f) ∗ (∃ f, rFly c X 1 1 f) ∗ (∃ f, rFly c X 2 2 f) ∗ (∃ f, rFly c X 3 3 f)
        ∗ (∃ f, rFly c X 4 4 f) ∗ (∃ f, rFly c X 5 5 f) ∗ xP c X 0
        ∗ (∃ f, wFly c V 0 0 (outB c X 0) f) ∗ ∃ W, owes (c : Thread nD τ) 0 W) -∗ Q ⟨⟩))
      ⊢ wp frame (wpE (defs₀ (F := F)) 𝒱₀ (c : Thread nD τ) none) Set.univ (bodyG i) Q := by
  have h122 : tN i + 6 < 128 := by omega
  have c1 : Scalar.cmpi .ne (Scalar.extui (Scalar.cmpi .eq (BitVec.ofNat 32 (i 0).val) 0#32) : BitVec 32) 0#32 = 1#1 := (cond1_iff i).2 h0
  have n2 : ¬ (k0_cond2 i = 1#1) := fun h => by have := (cond2_iff i).1 h; unfold tN at *; omega
  have c3 : k0_cond3 i = 1#1 := (cond3_iff i).2 (by unfold tN at *; omega)
  have n4 : ¬ (k0_cond4 i = 1#1) := fun h => by have := (cond4_iff i).1 h; unfold tN at *; omega
  have hr := rM_sub i
  have hw := wM_sub i
  rw [sl_first h0] at hr hw
  iintro ⟨⟨⟨HR0, ⟨%f0, HS0⟩⟩, ⟨HR1, ⟨%f1, HS1⟩⟩, ⟨HR2, ⟨%f2, HS2⟩⟩, ⟨HR3, ⟨%f3, HS3⟩⟩, ⟨HR4, ⟨%f4, HS4⟩⟩, ⟨HR5, ⟨%f5, HS5⟩⟩,
    HX0, HX1, HX2, HX3, HX4, HX5, HX6, ⟨HV, ⟨%fw, HS⟩⟩, HY, HW⟩, Hk⟩
  dsimp only [bodyG]
  simp only [cc0__bernoulli_block_eq_skeleton]; unfold cc0__bernoulli_block_skel
  simp -proj only [k0_part3_eq_skeleton, k0_part4_eq_skeleton, k0_part5_eq_skeleton, k0_part6_eq_skeleton, k0_part7_eq_skeleton]
  unfold k0_part3_skel k0_part4_skel k0_part5_skel k0_part6_skel k0_part7_skel
  sl_exec (disch := first | sl_exact c1 | sl_exact n2 | sl_exact c3 | sl_exact n4)
  sl_step
  have e : run_first.sl.dma3 c X i fw = outB c X 0 := by
    unfold run_first.sl.dma3 run_first.sl.HS_w1
    refine stored_eq c X i (sl_first h0).symm (bk_first h0).symm (rS 0).view.junk fw _ ?_
    unfold outV run_first.sl.v16 run_first.sl.dma0
    dsimp only
  iapply Hk
  isplitl [HR0]; · iexists _; iexact HR0
  isplitl [HR1]; · iexists _; iexact HR1
  isplitl [HR2]; · iexists _; iexact HR2
  isplitl [HR3]; · iexists _; iexact HR3
  isplitl [HR4]; · iexists _; iexact HR4
  isplitl [HR5]; · iexists _; iexact HR5
  isplitl [HX0]; · iexact HX0
  isplitl [HV]; · iapply (wFly_of c V _ _ e _); iexact HV
  iexists _; iexact HW

/-! At the last point the drained slots and blocks are literal. -/
/-- The last point's slot is the second. -/
theorem sl_last {i : grid0.Coords} (h : tN i = 127) : Ring.sl 6 (tN i) = 1 := by rw [h]; rfl
/-- The last point's block is the last; -/
theorem bk_last {i : grid0.Coords} (h : tN i = 127) : Ring.bk 128 (tN i) = 127 := by rw [h]; rfl
/-- the one it waits for is six back. -/
theorem bk6_last {i : grid0.Coords} (h : tN i = 127) : Ring.bk 128 (tN i - 6) = 121 := by rw [h]; rfl

attribute [local sl_canon] sl_last bk_last bk6_last in
set_option maxRecDepth 8192 in
set_option maxHeartbeats 4000000 in
/-- The last point: every block still on its way out is waited for. -/
theorem run_last (h127 : tN i = 127) (W : Waits sig Unit) (Q : PUnit → sProp 𝕄) :
    iprop(((∃ f, rFly c X 1 127 f)
        ∗ (∃ f, wFly c V 1 121 (outB c X 121) f) ∗ (∃ f, wFly c V 2 122 (outB c X 122) f) ∗ (∃ f, wFly c V 3 123 (outB c X 123) f)
        ∗ (∃ f, wFly c V 4 124 (outB c X 124) f) ∗ (∃ f, wFly c V 5 125 (outB c X 125) f) ∗ (∃ f, wFly c V 0 126 (outB c X 126) f)
        ∗ yP c 127 V ∗ owes (c : Thread nD τ) 0 W)
      ∗ (iprop((rCell c 1 ∗ ∃ f, rSlot c 1 f) ∗ xP c X 127
        ∗ (wCell c 0 ∗ ∃ f, wSlot c 0 f) ∗ (wCell c 1 ∗ ∃ f, wSlot c 1 f) ∗ (wCell c 2 ∗ ∃ f, wSlot c 2 f)
        ∗ (wCell c 3 ∗ ∃ f, wSlot c 3 f) ∗ (wCell c 4 ∗ ∃ f, wSlot c 4 f) ∗ (wCell c 5 ∗ ∃ f, wSlot c 5 f)
        ∗ yP c 121 (yLand c V 121 (outB c X 121)) ∗ yP c 122 (yLand c V 122 (outB c X 122)) ∗ yP c 123 (yLand c V 123 (outB c X 123))
        ∗ yP c 124 (yLand c V 124 (outB c X 124)) ∗ yP c 125 (yLand c V 125 (outB c X 125)) ∗ yP c 126 (yLand c V 126 (outB c X 126))
        ∗ yP c 127 (yLand c V 127 (outB c X 127)) ∗ ∃ W, owes (c : Thread nD τ) 0 W) -∗ Q ⟨⟩))
      ⊢ wp frame (wpE (defs₀ (F := F)) 𝒱₀ (c : Thread nD τ) none) Set.univ (bodyG i) Q := by
  have h6 : 6 ≤ tN i := by omega
  have n1 : ¬ (Scalar.cmpi .ne (Scalar.extui (Scalar.cmpi .eq (BitVec.ofNat 32 (i 0).val) 0#32) : BitVec 32) 0#32 = 1#1) := fun h => by have := (cond1_iff i).1 h; unfold tN at *; omega
  have c2 : k0_cond2 i = 1#1 := (cond2_iff i).2 (by unfold tN at *; omega)
  have n3 : ¬ (k0_cond3 i = 1#1) := fun h => by have := (cond3_iff i).1 h; unfold tN at *; omega
  have c4 : k0_cond4 i = 1#1 := (cond4_iff i).2 (by unfold tN at *; omega)
  have hr := rM_sub i
  have hw := wM_sub i
  rw [sl_last h127] at hr hw
  iintro ⟨⟨⟨%fr, HR⟩, ⟨%fw, HV1⟩, ⟨%f2, HV2⟩, ⟨%f3, HV3⟩, ⟨%f4, HV4⟩, ⟨%f5, HV5⟩, ⟨%f0, HV0⟩, HY, HW⟩, Hk⟩
  dsimp only [bodyG]
  simp only [cc0__bernoulli_block_eq_skeleton]; unfold cc0__bernoulli_block_skel
  simp -proj only [k0_part3_eq_skeleton, k0_part4_eq_skeleton, k0_part5_eq_skeleton, k0_part6_eq_skeleton, k0_part7_eq_skeleton]
  unfold k0_part3_skel k0_part4_skel k0_part5_skel k0_part6_skel k0_part7_skel
  sl_exec (disch := first | sl_exact n1 | sl_exact c2 | sl_exact n3 | sl_exact c4)
  sl_step
  have e : run_last.sl.dma3 c X i fw = outB c X 127 := by
    unfold run_last.sl.dma3 run_last.sl.HV1_src_w1
    refine stored_eq c X i (sl_last h127).symm (bk_last h127).symm (rS 1).view.junk fw _ ?_
    unfold outV run_last.sl.v16
    dsimp only
  iapply Hk
  isplitl [HR HR_dst]
  · isplitl [HR]; · iexact HR
    iexists _; iexact HR_dst
  isplitl [HR_src]; · iexact HR_src
  isplitl [HV0 HV0_src]
  · isplitl [HV0]; · iexact HV0
    iexists _; iexact HV0_src
  isplitl [HV1 HV1_src]
  · isplitl [HV1]; · iexact HV1
    iexists _; iexact HV1_src
  isplitl [HV2 HV2_src]
  · isplitl [HV2]; · iexact HV2
    iexists _; iexact HV2_src
  isplitl [HV3 HV3_src]
  · isplitl [HV3]; · iexact HV3
    iexists _; iexact HV3_src
  isplitl [HV4 HV4_src]
  · isplitl [HV4]; · iexact HV4
    iexists _; iexact HV4_src
  isplitl [HV5 HV5_src]
  · isplitl [HV5]; · iexact HV5
    iexists _; iexact HV5_src
  isplitl [HV1_dst]; · iexact HV1_dst
  isplitl [HV2_dst]; · iexact HV2_dst
  isplitl [HV3_dst]; · iexact HV3_dst
  isplitl [HV4_dst]; · iexact HV4_dst
  isplitl [HV5_dst]; · iexact HV5_dst
  isplitl [HV0_dst]; · iexact HV0_dst
  isplitl [HY]; · iapply (yP_of c V e); iexact HY
  iexists _; iexact HW

end Runs

end Cert.Proof.Bern
end
-- ==== Proof.State.lean ====
/-
  What holds between two grid points: where every block of the operand and of the result is, and what every slot of the two
  rings holds; and how one point moves it.
-/
module

public import proofs.«01_k».proof.Proof.Body

@[expose] public section

noncomputable section

namespace Cert.Proof.Bern

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Taking the changed members out of a separating product -/

/-- A separating product gives up the members of a list and takes their successors, the others unchanged. -/
theorem bigSep_move {I : Type} [Fintype I] [DecidableEq I] (l : List I) (hl : l.Nodup) (Φ Ψ : I → sProp 𝕄) (h : ∀ b, b ∉ l → Φ b = Ψ b) :
    bigSep Finset.univ Φ ⊢ iprop(bigSepL l Φ ∗ (bigSepL l Ψ -∗ bigSep Finset.univ Ψ)) := by
  have e (Θ : I → sProp 𝕄) : bigSep Finset.univ Θ = iprop(bigSepL l Θ ∗ bigSep (Finset.univ \ l.toFinset) Θ) :=
    (bigSep_sdiff_split (Finset.subset_univ l.toFinset)).trans (congrArg (fun P => iprop(P ∗ bigSep (Finset.univ \ l.toFinset) Θ)) (bigSep_eq_bigSepL l hl Θ))
  rw [e Φ, e Ψ,
    bigSep_congr (s := Finset.univ \ l.toFinset) (Φ := Φ) (Ψ := Ψ) fun b hb => h b fun hm => (Finset.mem_sdiff.1 hb).2 (List.mem_toFinset.2 hm)]
  iintro ⟨H, HR⟩
  isplitl [H]; · iexact H
  iintro H'
  isplitl [H']; · iexact H'
  iexact HR

/-- A product over two listed members. -/
theorem bigSepL_pair {I : Type} (i j : I) (Φ : I → sProp 𝕄) : bigSepL [i, j] Φ = iprop(Φ i ∗ Φ j) := rfl

/-- A list of two different members has no repetition. -/
theorem nodup_pair {I : Type} {i j : I} (h : i ≠ j) : [i, j].Nodup :=
  List.nodup_cons.2 ⟨fun hm => h (List.mem_singleton.1 hm), List.nodup_singleton _⟩

section State
variable (c : Dev nD) (X : Buf (Elt F) (xM.view.loc (c : Thread nD τ))) (V : Buf (Elt F) (yM.view.loc (c : Thread nD τ)))

/-- The first block from point `p` on that slot `s` serves. -/
def nxt (p : ℕ) (s : Fin 6) : ℕ := p + (s.val + 6 - p % 6) % 6

/-- The next block of a slot that the point at `t` does not touch stays what it was. -/
theorem nxt_other {t : ℕ} {s : Fin 6} (h : s ≠ Ring.sl 6 t) : nxt (t + 1) s = nxt t s := by
  have h' : s.val ≠ t % 6 := fun e => h (Fin.ext e)
  have := s.isLt; unfold nxt; omega
/-- The point's own slot serves the point's block, -/
theorem nxt_self (t : ℕ) : nxt t (Ring.sl 6 t) = t := by
  show t + (t % 6 + 6 - t % 6) % 6 = t; omega
/-- and six further after it. -/
theorem nxt_succ (t : ℕ) : nxt (t + 1) (Ring.sl 6 t) = t + 6 := by
  show t + 1 + (t % 6 + 6 - (t + 1) % 6) % 6 = t + 6; omega

/-- A slot of the reading ring at rest; -/
abbrev rFree (s : Fin 6) : sProp 𝕄 := iprop(rCell c s ∗ ∃ f, rSlot c s f)
/-- a slot of the writing ring at rest; -/
abbrev wFree (s : Fin 6) : sProp 𝕄 := iprop(wCell c s ∗ ∃ f, wSlot c s f)
/-- a slot of the reading ring with block `b` on its way in; -/
abbrev rBusy (s : Fin 6) (b : Fin 128) : sProp 𝕄 := iprop(∃ f, rFly c X s b f)
/-- a slot of the writing ring with block `b` on its way out; -/
abbrev wBusy (s : Fin 6) (b : Fin 128) : sProp 𝕄 := iprop(∃ f, wFly c V s b (outB c X b) f)
/-- a block of the result written. -/
abbrev yDone (b : Fin 128) : sProp 𝕄 := yP c b (yLand c V b (outB c X b))

/-- Slot `s` of the reading ring before point `p`. -/
def rAt (p : ℕ) (s : Fin 6) : sProp 𝕄 := if p = 0 ∨ 128 ≤ nxt p s then rFree c s else rBusy c X s (Ring.bk 128 (nxt p s))
/-- Block `b` of the operand before point `p`. -/
def xAt (p : ℕ) (b : Fin 128) : sProp 𝕄 := if p = 0 ∨ b.val < p ∨ p + 6 ≤ b.val then xP c X b else iprop(emp)
/-- Slot `s` of the writing ring before point `p`. -/
def wAt (p : ℕ) (s : Fin 6) : sProp 𝕄 := if p = 128 ∨ nxt p s < 6 then wFree c s else wBusy c X V s (Ring.bk 128 (nxt p s - 6))
/-- Block `b` of the result before point `p`. -/
def yAt (p : ℕ) (b : Fin 128) : sProp 𝕄 := if p ≤ b.val then yP c b V else if p = 128 ∨ b.val + 6 < p then yDone c X V b else iprop(emp)

/-- Everything before point `p`. -/
def At (p : ℕ) : sProp 𝕄 :=
  iprop(bigSep Finset.univ (rAt c X p) ∗ bigSep Finset.univ (xAt c X p) ∗ bigSep Finset.univ (wAt c X V p) ∗ bigSep Finset.univ (yAt c X V p))

/-! ### The reading ring -/

/-- A slot that the point does not touch is as it was. -/
theorem rAt_other {t : ℕ} (h0 : t ≠ 0) {s : Fin 6} (h : s ∉ [Ring.sl 6 t]) : rAt c X t s = rAt c X (t + 1) s := by
  unfold rAt; rw [nxt_other (by simpa using h)]; simp [h0]
/-- At a point that fetches, its slot passes from its own block to the one six on; -/
theorem rAt_mid {t : ℕ} (h0 : t ≠ 0) (h : t + 6 < 128) :
    bigSep Finset.univ (rAt c X t) ⊢ iprop(rBusy c X (Ring.sl 6 t) (Ring.bk 128 t) ∗ (rBusy c X (Ring.sl 6 t) (Ring.bk 128 (t + 6)) -∗ bigSep Finset.univ (rAt c X (t + 1)))) := by
  refine (bigSep_move [Ring.sl 6 t] (List.nodup_singleton _) _ _ fun s hs => rAt_other c X h0 hs).trans ?_
  rw [bigSepL_singleton, bigSepL_singleton]; unfold rAt
  rw [nxt_self, nxt_succ, if_neg (by omega), if_neg (by omega)]
/-- at one that does not, it is at rest after. -/
theorem rAt_hi {t : ℕ} (h : t < 128) (h' : 122 ≤ t) :
    bigSep Finset.univ (rAt c X t) ⊢ iprop(rBusy c X (Ring.sl 6 t) (Ring.bk 128 t) ∗ (rFree c (Ring.sl 6 t) -∗ bigSep Finset.univ (rAt c X (t + 1)))) := by
  refine (bigSep_move [Ring.sl 6 t] (List.nodup_singleton _) _ _ fun s hs => rAt_other c X (by omega) hs).trans ?_
  rw [bigSepL_singleton, bigSepL_singleton]; unfold rAt
  rw [nxt_self, nxt_succ, if_neg (by omega), if_pos (by omega)]
/-- The first point finds the six slots at rest and leaves them busy. -/
theorem rAt_first : bigSep Finset.univ (rAt c X 0) ⊢ iprop((rFree c 0 ∗ rFree c 1 ∗ rFree c 2 ∗ rFree c 3 ∗ rFree c 4 ∗ rFree c 5)
    ∗ (iprop(rBusy c X 0 6 ∗ rBusy c X 1 1 ∗ rBusy c X 2 2 ∗ rBusy c X 3 3 ∗ rBusy c X 4 4 ∗ rBusy c X 5 5) -∗ bigSep Finset.univ (rAt c X 1))) :=
  bigSep_move [0, 1, 2, 3, 4, 5] (by decide) (rAt c X 0) (rAt c X 1) fun s hs => absurd ((by decide : ∀ s : Fin 6, s ∈ [0, 1, 2, 3, 4, 5]) s) hs

/-! ### The operand's blocks -/

/-- At a point that fetches, the block six on is taken and the point's own comes back; -/
theorem xAt_mid {t : ℕ} (h0 : t ≠ 0) (h : t + 6 < 128) :
    bigSep Finset.univ (xAt c X t) ⊢ iprop(xP c X (Ring.bk 128 (t + 6)) ∗ (xP c X (Ring.bk 128 t) -∗ bigSep Finset.univ (xAt c X (t + 1)))) := by
  have v0 : (Ring.bk 128 t).val = t := Ring.bk_val (by omega)
  have v6 : (Ring.bk 128 (t + 6)).val = t + 6 := Ring.bk_val h
  refine (bigSep_move [Ring.bk 128 t, Ring.bk 128 (t + 6)] (nodup_pair fun e => by have := congrArg Fin.val e; omega) _ (xAt c X (t + 1)) fun b hb => ?_).trans ?_
  · simp only [List.mem_cons, List.not_mem_nil, _root_.or_false, not_or, Fin.ext_iff, v0, v6] at hb
    unfold xAt; exact if_congr (by omega) rfl rfl
  · rw [bigSepL_pair, bigSepL_pair]; unfold xAt
    rw [v0, v6, if_neg (by omega), if_pos (by omega), if_pos (by omega), if_neg (by omega)]
    iintro ⟨⟨-, H⟩, HR⟩
    isplitl [H]; · iexact H
    iintro H
    iapply HR
    isplitl [H]; · iexact H
    iempintro
/-- at one that does not, the point's own comes back. -/
theorem xAt_hi {t : ℕ} (h : t < 128) (h' : 122 ≤ t) :
    bigSep Finset.univ (xAt c X t) ⊢ iprop(xP c X (Ring.bk 128 t) -∗ bigSep Finset.univ (xAt c X (t + 1))) := by
  have v0 : (Ring.bk 128 t).val = t := Ring.bk_val (by omega)
  refine (bigSep_move [Ring.bk 128 t] (List.nodup_singleton _) _ (xAt c X (t + 1)) fun b hb => ?_).trans ?_
  · simp only [List.mem_cons, List.not_mem_nil, _root_.or_false, not_or, Fin.ext_iff, v0] at hb
    have := b.isLt
    unfold xAt; exact if_congr (by omega) rfl rfl
  · rw [bigSepL_singleton, bigSepL_singleton]; unfold xAt
    rw [v0, if_neg (by omega), if_pos (by omega)]
    iintro ⟨-, HR⟩; iexact HR
/-- The first point takes six blocks and one more, and gives the first back. -/
theorem xAt_first : bigSep Finset.univ (xAt c X 0) ⊢ iprop((xP c X 0 ∗ xP c X 1 ∗ xP c X 2 ∗ xP c X 3 ∗ xP c X 4 ∗ xP c X 5 ∗ xP c X 6)
    ∗ (xP c X 0 -∗ bigSep Finset.univ (xAt c X 1))) := by
  refine (bigSep_move [0, 1, 2, 3, 4, 5, 6] (by decide) _ (xAt c X 1) fun b hb => ?_).trans ?_
  · have : ¬ b.val < 7 := fun h => hb (by revert b; decide)
    unfold xAt; exact if_congr (by omega) rfl rfl
  · rw [show (bigSepL [0, 1, 2, 3, 4, 5, 6] (xAt c X 0) : sProp 𝕄) = iprop(xP c X 0 ∗ xP c X 1 ∗ xP c X 2 ∗ xP c X 3 ∗ xP c X 4 ∗ xP c X 5 ∗ xP c X 6) from rfl]
    iintro ⟨H, HR⟩
    isplitl [H]; · iexact H
    iintro H
    iapply HR
    rw [show (bigSepL [0, 1, 2, 3, 4, 5, 6] (xAt c X 1) : sProp 𝕄) = iprop(xP c X 0 ∗ emp ∗ emp ∗ emp ∗ emp ∗ emp ∗ emp) from rfl]
    isplitl [H]; · iexact H
    repeat (isplitr; · iempintro)
    iempintro

/-! ### The writing ring -/

/-- A slot that the point does not touch is as it was. -/
theorem wAt_other {t : ℕ} (h0 : t < 127) {s : Fin 6} (h : s ∉ [Ring.sl 6 t]) : wAt c X V t s = wAt c X V (t + 1) s := by
  unfold wAt; rw [nxt_other (by simpa using h)]; exact if_congr (by omega) rfl rfl
/-- One of the first six points finds its slot at rest and leaves it busy; -/
theorem wAt_lo {t : ℕ} (h : t < 6) :
    bigSep Finset.univ (wAt c X V t) ⊢ iprop(wFree c (Ring.sl 6 t) ∗ (wBusy c X V (Ring.sl 6 t) (Ring.bk 128 t) -∗ bigSep Finset.univ (wAt c X V (t + 1)))) := by
  refine (bigSep_move [Ring.sl 6 t] (List.nodup_singleton _) _ _ fun s hs => wAt_other c X V (by omega) hs).trans ?_
  rw [bigSepL_singleton, bigSepL_singleton]; unfold wAt
  rw [nxt_self, nxt_succ, if_pos (by omega), if_neg (by omega), Nat.add_sub_cancel]
/-- a later one finds the block six back in it and leaves its own. -/
theorem wAt_mid {t : ℕ} (h6 : 6 ≤ t) (h : t < 127) :
    bigSep Finset.univ (wAt c X V t) ⊢ iprop(wBusy c X V (Ring.sl 6 t) (Ring.bk 128 (t - 6)) ∗ (wBusy c X V (Ring.sl 6 t) (Ring.bk 128 t) -∗ bigSep Finset.univ (wAt c X V (t + 1)))) := by
  refine (bigSep_move [Ring.sl 6 t] (List.nodup_singleton _) _ _ fun s hs => wAt_other c X V (by omega) hs).trans ?_
  rw [bigSepL_singleton, bigSepL_singleton]; unfold wAt
  rw [nxt_self, nxt_succ, if_neg (by omega), if_neg (by omega), Nat.add_sub_cancel]
/-- The last point finds all six busy and leaves them at rest. -/
theorem wAt_last : bigSep Finset.univ (wAt c X V 127) ⊢ iprop((wBusy c X V 0 126 ∗ wBusy c X V 1 121 ∗ wBusy c X V 2 122 ∗ wBusy c X V 3 123 ∗ wBusy c X V 4 124 ∗ wBusy c X V 5 125)
    ∗ (iprop(wFree c 0 ∗ wFree c 1 ∗ wFree c 2 ∗ wFree c 3 ∗ wFree c 4 ∗ wFree c 5) -∗ bigSep Finset.univ (wAt c X V 128))) :=
  bigSep_move [0, 1, 2, 3, 4, 5] (by decide) _ _ fun s hs => absurd ((by decide : ∀ s : Fin 6, s ∈ [0, 1, 2, 3, 4, 5]) s) hs

/-! ### The result's blocks -/

/-- One of the first six points takes its block; -/
theorem yAt_lo {t : ℕ} (h : t < 6) :
    bigSep Finset.univ (yAt c X V t) ⊢ iprop(yP c (Ring.bk 128 t) V ∗ bigSep Finset.univ (yAt c X V (t + 1))) := by
  have v0 : (Ring.bk 128 t).val = t := Ring.bk_val (by omega)
  refine (bigSep_move [Ring.bk 128 t] (List.nodup_singleton _) _ (yAt c X V (t + 1)) fun b hb => ?_).trans ?_
  · simp only [List.mem_cons, List.not_mem_nil, _root_.or_false, not_or, Fin.ext_iff, v0] at hb
    have := b.isLt
    unfold yAt; exact if_congr (by omega) rfl (if_congr (by omega) rfl rfl)
  · rw [bigSepL_singleton, bigSepL_singleton]; unfold yAt
    rw [v0, if_pos (by omega), if_neg (by omega), if_neg (by omega)]
    iintro ⟨H, HR⟩
    isplitl [H]; · iexact H
    iapply HR; iempintro
/-- a later one takes its own and gives the block six back, written. -/
theorem yAt_mid {t : ℕ} (h6 : 6 ≤ t) (h : t < 127) :
    bigSep Finset.univ (yAt c X V t) ⊢ iprop(yP c (Ring.bk 128 t) V ∗ (yDone c X V (Ring.bk 128 (t - 6)) -∗ bigSep Finset.univ (yAt c X V (t + 1)))) := by
  have v0 : (Ring.bk 128 t).val = t := Ring.bk_val (by omega)
  have v6 : (Ring.bk 128 (t - 6)).val = t - 6 := Ring.bk_val (by omega)
  refine (bigSep_move [Ring.bk 128 t, Ring.bk 128 (t - 6)] (nodup_pair fun e => by have := congrArg Fin.val e; omega) _ (yAt c X V (t + 1)) fun b hb => ?_).trans ?_
  · simp only [List.mem_cons, List.not_mem_nil, _root_.or_false, not_or, Fin.ext_iff, v0, v6] at hb
    have := b.isLt
    unfold yAt; exact if_congr (by omega) rfl (if_congr (by omega) rfl rfl)
  · rw [bigSepL_pair, bigSepL_pair]; unfold yAt
    rw [v0, v6, if_pos (by omega), if_neg (by omega), if_neg (by omega), if_neg (by omega), if_neg (by omega), if_neg (by omega), if_pos (by omega)]
    iintro ⟨⟨H, -⟩, HR⟩
    isplitl [H]; · iexact H
    iintro H
    iapply HR
    isplitr; · iempintro
    iexact H
/-- The last point takes its own block and gives the last seven, written. -/
theorem yAt_last : bigSep Finset.univ (yAt c X V 127) ⊢ iprop(yP c 127 V
    ∗ (iprop(yDone c X V 121 ∗ yDone c X V 122 ∗ yDone c X V 123 ∗ yDone c X V 124 ∗ yDone c X V 125 ∗ yDone c X V 126 ∗ yDone c X V 127) -∗ bigSep Finset.univ (yAt c X V 128))) := by
  refine (bigSep_move [121, 122, 123, 124, 125, 126, 127] (by decide) _ (yAt c X V 128) fun b hb => ?_).trans ?_
  · have : ¬ 121 ≤ b.val := fun h => hb (by revert b; decide)
    have := b.isLt
    unfold yAt; exact if_congr (by omega) rfl (if_congr (by omega) rfl rfl)
  · rw [show (bigSepL [121, 122, 123, 124, 125, 126, 127] (yAt c X V 127) : sProp 𝕄) = iprop(emp ∗ emp ∗ emp ∗ emp ∗ emp ∗ emp ∗ yP c 127 V) from rfl]
    iintro ⟨⟨-, -, -, -, -, -, H⟩, HR⟩
    isplitl [H]; · iexact H
    iexact HR

end State

end Cert.Proof.Bern
end
-- ==== Proof.Launch.lean ====
/-
  The launch: every point moves what holds before it to what holds before the next, and the whole run leaves the operand
  unchanged, the result block by block what the body computes, and every counter at zero.
-/
module

public import proofs.«01_k».proof.Proof.State
public import proofs.«01_k».proof.Proof.Gen.KernelIdeal.Launch
public import Idealize.ShloMosaic.Lib.Pipeline.KitQuiescent

@[expose] public section

noncomputable section

namespace Cert.Proof.Bern

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Equal propositions entail each other. -/
theorem of_eq {P Q : sProp 𝕄} (e : P = Q) : P ⊢ Q := e ▸ .rfl

/-- The points' numbers. -/
theorem tN_coords : ∀ t : Fin grid0.N, tN (grid0.coords t) = t.val := by decide +kernel

section Step
variable (c : Dev nD) (X : Buf (Elt F) (xM.view.loc (c : Thread nD τ))) (V : Buf (Elt F) (yM.view.loc (c : Thread nD τ)))

/-- One point of the grid. -/
theorem step (i : grid0.Coords) (W : Waits sig Unit) (Q : PUnit → sProp 𝕄) :
    iprop((At c X V (tN i) ∗ owes (c : Thread nD τ) 0 W) ∗ (iprop(At c X V (tN i + 1) ∗ ∃ W, owes (c : Thread nD τ) 0 W) -∗ Q ⟨⟩))
      ⊢ wp frame (wpE (defs₀ (F := F)) 𝒱₀ (c : Thread nD τ) none) Set.univ (bodyG i) Q := by
  have hlt := tN_lt i
  unfold At
  iintro ⟨⟨⟨HR, HX, HV, HY⟩, HW⟩, Hk⟩
  by_cases h0 : tN i = 0
  · rw [h0]
    ihave HR := (rAt_first c X) $$ HR
    ihave HX := (xAt_first c X) $$ HX
    ihave HV := (wAt_lo c X V (t := 0) (by decide)) $$ HV
    ihave HY := (yAt_lo c X V (t := 0) (by decide)) $$ HY
    icases HR with ⟨⟨HR0, HR1, HR2, HR3, HR4, HR5⟩, HR⟩
    icases HX with ⟨⟨HX0, HX1, HX2, HX3, HX4, HX5, HX6⟩, HX⟩
    icases HV with ⟨HV0, HV⟩
    icases HY with ⟨HY0, HY⟩
    iapply (run_first c X V i h0 W Q)
    isplitl [HR0 HR1 HR2 HR3 HR4 HR5 HX0 HX1 HX2 HX3 HX4 HX5 HX6 HV0 HY0 HW]
    · isplitl [HR0]; · iexact HR0
      isplitl [HR1]; · iexact HR1
      isplitl [HR2]; · iexact HR2
      isplitl [HR3]; · iexact HR3
      isplitl [HR4]; · iexact HR4
      isplitl [HR5]; · iexact HR5
      isplitl [HX0]; · iexact HX0
      isplitl [HX1]; · iexact HX1
      isplitl [HX2]; · iexact HX2
      isplitl [HX3]; · iexact HX3
      isplitl [HX4]; · iexact HX4
      isplitl [HX5]; · iexact HX5
      isplitl [HX6]; · iexact HX6
      isplitl [HV0]; · iexact HV0
      isplitl [HY0]; · iexact HY0
      iexact HW
    · iintro ⟨HR0, HR1, HR2, HR3, HR4, HR5, HX0, HV0, HW⟩
      iapply Hk
      isplitr [HW]
      · isplitl [HR HR0 HR1 HR2 HR3 HR4 HR5]
        · iapply HR
          isplitl [HR0]; · iexact HR0
          isplitl [HR1]; · iexact HR1
          isplitl [HR2]; · iexact HR2
          isplitl [HR3]; · iexact HR3
          isplitl [HR4]; · iexact HR4
          iexact HR5
        isplitl [HX HX0]; · iapply HX; iexact HX0
        isplitl [HV HV0]; · iapply HV; iexact HV0
        iexact HY
      iexact HW
  by_cases h6 : tN i < 6
  · ihave HR := (rAt_mid c X h0 (by omega)) $$ HR
    ihave HX := (xAt_mid c X h0 (by omega)) $$ HX
    ihave HV := (wAt_lo c X V h6) $$ HV
    ihave HY := (yAt_lo c X V h6) $$ HY
    icases HR with ⟨HR0, HR⟩
    icases HX with ⟨HX0, HX⟩
    icases HV with ⟨HV0, HV⟩
    icases HY with ⟨HY0, HY⟩
    iapply (run_lo c X V i (by omega) h6 W Q)
    isplitl [HR0 HX0 HV0 HY0 HW]
    · isplitl [HR0]; · iexact HR0
      isplitl [HX0]; · iexact HX0
      isplitl [HV0]; · iexact HV0
      isplitl [HY0]; · iexact HY0
      iexact HW
    · iintro ⟨HR0, HX0, HV0, HW⟩
      iapply Hk
      isplitr [HW]
      · isplitl [HR HR0]; · iapply HR; iexact HR0
        isplitl [HX HX0]; · iapply HX; iexact HX0
        isplitl [HV HV0]; · iapply HV; iexact HV0
        iexact HY
      iexact HW
  by_cases h122 : tN i + 6 < 128
  · ihave HR := (rAt_mid c X h0 h122) $$ HR
    ihave HX := (xAt_mid c X h0 h122) $$ HX
    ihave HV := (wAt_mid c X V (by omega) (by omega)) $$ HV
    ihave HY := (yAt_mid c X V (by omega) (by omega)) $$ HY
    icases HR with ⟨HR0, HR⟩
    icases HX with ⟨HX0, HX⟩
    icases HV with ⟨HV0, HV⟩
    icases HY with ⟨HY0, HY⟩
    iapply (run_mid c X V i (by omega) h122 W Q)
    isplitl [HR0 HX0 HV0 HY0 HW]
    · isplitl [HR0]; · iexact HR0
      isplitl [HX0]; · iexact HX0
      isplitl [HV0]; · iexact HV0
      isplitl [HY0]; · iexact HY0
      iexact HW
    · iintro ⟨HR0, HX0, HV0, HY0, HW⟩
      iapply Hk
      isplitr [HW]
      · isplitl [HR HR0]; · iapply HR; iexact HR0
        isplitl [HX HX0]; · iapply HX; iexact HX0
        isplitl [HV HV0]; · iapply HV; iexact HV0
        iapply HY; iexact HY0
      iexact HW
  by_cases h127 : tN i < 127
  · ihave HR := (rAt_hi c X hlt (by omega)) $$ HR
    ihave HX := (xAt_hi c X hlt (by omega)) $$ HX
    ihave HV := (wAt_mid c X V (by omega) h127) $$ HV
    ihave HY := (yAt_mid c X V (by omega) h127) $$ HY
    icases HR with ⟨HR0, HR⟩
    icases HV with ⟨HV0, HV⟩
    icases HY with ⟨HY0, HY⟩
    iapply (run_hi c X V i (by omega) h127 W Q)
    isplitl [HR0 HV0 HY0 HW]
    · isplitl [HR0]; · iexact HR0
      isplitl [HV0]; · iexact HV0
      isplitl [HY0]; · iexact HY0
      iexact HW
    · iintro ⟨HR0, HX0, HV0, HY0, HW⟩
      iapply Hk
      isplitr [HW]
      · isplitl [HR HR0]; · iapply HR; iexact HR0
        isplitl [HX HX0]; · iapply HX; iexact HX0
        isplitl [HV HV0]; · iapply HV; iexact HV0
        iapply HY; iexact HY0
      iexact HW
  · have e : tN i = 127 := by omega
    rw [e]
    ihave HR := (rAt_hi c X (t := 127) (by decide) (by decide)) $$ HR
    ihave HX := (xAt_hi c X (t := 127) (by decide) (by decide)) $$ HX
    ihave HV := (wAt_last c X V) $$ HV
    ihave HY := (yAt_last c X V) $$ HY
    icases HR with ⟨HR0, HR⟩
    icases HV with ⟨⟨HV0, HV1, HV2, HV3, HV4, HV5⟩, HV⟩
    icases HY with ⟨HY0, HY⟩
    iapply (run_last c X V i e W Q)
    isplitl [HR0 HV0 HV1 HV2 HV3 HV4 HV5 HY0 HW]
    · isplitl [HR0]; · iexact HR0
      isplitl [HV1]; · iexact HV1
      isplitl [HV2]; · iexact HV2
      isplitl [HV3]; · iexact HV3
      isplitl [HV4]; · iexact HV4
      isplitl [HV5]; · iexact HV5
      isplitl [HV0]; · iexact HV0
      isplitl [HY0]; · iexact HY0
      iexact HW
    · iintro ⟨HR0, HX0, HV0, HV1, HV2, HV3, HV4, HV5, HY1, HY2, HY3, HY4, HY5, HY6, HY7, HW⟩
      iapply Hk
      isplitr [HW]
      · isplitl [HR HR0]; · iapply HR; iexact HR0
        isplitl [HX HX0]; · iapply HX; iexact HX0
        isplitl [HV HV0 HV1 HV2 HV3 HV4 HV5]
        · iapply HV
          isplitl [HV0]; · iexact HV0
          isplitl [HV1]; · iexact HV1
          isplitl [HV2]; · iexact HV2
          isplitl [HV3]; · iexact HV3
          isplitl [HV4]; · iexact HV4
          iexact HV5
        iapply HY
        isplitl [HY1]; · iexact HY1
        isplitl [HY2]; · iexact HY2
        isplitl [HY3]; · iexact HY3
        isplitl [HY4]; · iexact HY4
        isplitl [HY5]; · iexact HY5
        isplitl [HY6]; · iexact HY6
        iexact HY7
      iexact HW

/-! ## The two ends -/

/-- The whole result: every element the one its block's point computes. -/
def OUT : Buf (Elt F) (yM.view.loc (c : Thread nD τ)) := fun j =>
  outB c X ⟨(j 0).val / 8, by have h : (j 0).val < 1024 := (j 0).isLt; omega⟩
    (fun | ⟨0, _⟩ => ⟨(j 0).val % 8, Nat.mod_lt _ (by decide)⟩ | ⟨1, _⟩ => ⟨(j 1).val, (j 1).isLt⟩)

/-- The whole result at row `r` of block `b`. -/
theorem OUT_at (b : Fin 128) (y : S8x100000.Idx) (j : S1024x100000.Idx) (e0 : (j 0).val = 8 * b.val + (y 0).val) (e1 : (j 1).val = (y 1).val) :
    OUT c X j = outB c X b y := by
  have h0 : (y 0).val < 8 := (y 0).isLt
  unfold OUT
  have eb : (⟨(j 0).val / 8, by have h : (j 0).val < 1024 := (j 0).isLt; omega⟩ : Fin 128) = b := Fin.ext (by show _ / 8 = b.val; omega)
  rw [eb]
  exact congrArg (outB c X b) (funext fun | ⟨0, _⟩ => Fin.ext (by show (j 0).val % 8 = (y 0).val; omega) | ⟨1, _⟩ => Fin.ext e1)

set_option maxRecDepth 8192 in
/-- A block written is the block of the whole result. -/
theorem yDone_eq (b : Fin 128) : yDone c X V b = (yP c b (OUT c X) : sProp 𝕄) := by
  refine pointsTo_congr fun j hj => ?_
  obtain ⟨y, -, rfl⟩ := Finset.mem_map.1 hj
  have hv := congrFun (View.read_writes_whole (yB b).view V (outB c X b)) y
  rw [View.read_apply] at hv
  refine Eq.trans (eq_of_heq ((cast_heq _ _).symm.trans (heq_of_eq hv))) ?_
  exact (OUT_at c X b y ((yB b).view.emb y) (by show 8 * b.val + 1 * (y 0).val = _; omega) (by show 0 + 1 * (y 1).val = _; omega)).symm

/-- The operand whole is its blocks, -/
theorem x_blocks : (((c : Thread nD τ).loc main_arg0) ↦{fullShare} X : sProp 𝕄) = bigSep Finset.univ (xP c X) := by
  rw [Ring.pointsTo_blocks (ℓ := (c : Thread nD τ).loc main_arg0) blkSet blkSet_disjoint blkSet_cover]
  exact bigSep_congr fun b _ => by rw [← xB_set]; rfl
/-- and so is the result. -/
theorem y_blocks (f : Buf (Elt F) (yM.view.loc (c : Thread nD τ))) :
    (((c : Thread nD τ).loc main_v0) ↦{fullShare} f : sProp 𝕄) = bigSep Finset.univ (fun b => yP c b f) := by
  rw [Ring.pointsTo_blocks (ℓ := (c : Thread nD τ).loc main_v0) blkSet blkSet_disjoint blkSet_cover]
  exact bigSep_congr fun b _ => by rw [← yB_set]; rfl
/-- A slot of the reading ring is its elements of the ring's buffer; -/
theorem rSlot_eq (s : Fin 6) (f) : rSlot c s f = (((c : Thread nD τ).loc cc0_scratch0) ↦[slotSet s]{fullShare} f : sProp 𝕄) :=
  congrArg (fun S => (_ ↦[S]{fullShare} f : sProp 𝕄)) (rS_set s)
/-- so is a slot of the writing ring. -/
theorem wSlot_eq (s : Fin 6) (f) : wSlot c s f = (((c : Thread nD τ).loc cc0_scratch1) ↦[slotSet s]{fullShare} f : sProp 𝕄) :=
  congrArg (fun S => (_ ↦[S]{fullShare} f : sProp 𝕄)) (wS_set s)

/-- A ring's buffer whole is its six slots; -/
theorem r_split : iprop(∃ f : Buf (Elt F) ((c : Thread nD τ).loc cc0_scratch0), ((c : Thread nD τ).loc cc0_scratch0) ↦{fullShare} f)
    ⊢ (bigSep Finset.univ (fun s => iprop(∃ f, rSlot c s f)) : sProp 𝕄) := by
  iintro ⟨%f, H⟩
  ihave H2 := (of_eq (Ring.pointsTo_blocks (Ix := Unit) (Name := ℕ) (U := UU) (Lvl := ℕ) (q := fullShare) (ℓ := (c : Thread nD τ).loc cc0_scratch0) slotSet slotSet_disjoint slotSet_cover f)) $$ H
  have hs (s : Fin 6) : (((c : Thread nD τ).loc cc0_scratch0) ↦[slotSet s]{fullShare} f : sProp 𝕄) ⊢ iprop(∃ f, rSlot c s f) := by
    rw [← rSlot_eq c s f]; iintro H; iexists f; iexact H
  have hm : (bigSep Finset.univ (fun s => ((c : Thread nD τ).loc cc0_scratch0) ↦[slotSet s]{fullShare} f) : sProp 𝕄) ⊢ bigSep Finset.univ (fun s => iprop(∃ f, rSlot c s f)) :=
    bigSep_mono fun s _ => hs s
  iapply hm; iexact H2
/-- The same of the writing ring. -/
theorem w_split : iprop(∃ f : Buf (Elt F) ((c : Thread nD τ).loc cc0_scratch1), ((c : Thread nD τ).loc cc0_scratch1) ↦{fullShare} f)
    ⊢ (bigSep Finset.univ (fun s => iprop(∃ f, wSlot c s f)) : sProp 𝕄) := by
  iintro ⟨%f, H⟩
  ihave H2 := (of_eq (Ring.pointsTo_blocks (Ix := Unit) (Name := ℕ) (U := UU) (Lvl := ℕ) (q := fullShare) (ℓ := (c : Thread nD τ).loc cc0_scratch1) slotSet slotSet_disjoint slotSet_cover f)) $$ H
  have hs (s : Fin 6) : (((c : Thread nD τ).loc cc0_scratch1) ↦[slotSet s]{fullShare} f : sProp 𝕄) ⊢ iprop(∃ f, wSlot c s f) := by
    rw [← wSlot_eq c s f]; iintro H; iexists f; iexact H
  have hm : (bigSep Finset.univ (fun s => ((c : Thread nD τ).loc cc0_scratch1) ↦[slotSet s]{fullShare} f) : sProp 𝕄) ⊢ bigSep Finset.univ (fun s => iprop(∃ f, wSlot c s f)) :=
    bigSep_mono fun s _ => hs s
  iapply hm; iexact H2
/-- and back. -/
theorem r_join (f₀ : Buf (Elt F) ((c : Thread nD τ).loc cc0_scratch0)) : (bigSep Finset.univ (fun s => iprop(∃ f, rSlot c s f)) : sProp 𝕄)
    ⊢ iprop(∃ f : Buf (Elt F) ((c : Thread nD τ).loc cc0_scratch0), ((c : Thread nD τ).loc cc0_scratch0) ↦{fullShare} f) := by
  simp only [rSlot_eq]; exact Ring.pointsTo_blocks_join_exists (ℓ := (c : Thread nD τ).loc cc0_scratch0) slotSet slotSet_disjoint slotSet_cover f₀
/-- and of the writing ring. -/
theorem w_join (f₀ : Buf (Elt F) ((c : Thread nD τ).loc cc0_scratch1)) : (bigSep Finset.univ (fun s => iprop(∃ f, wSlot c s f)) : sProp 𝕄)
    ⊢ iprop(∃ f : Buf (Elt F) ((c : Thread nD τ).loc cc0_scratch1), ((c : Thread nD τ).loc cc0_scratch1) ↦{fullShare} f) := by
  simp only [wSlot_eq]; exact Ring.pointsTo_blocks_join_exists (ℓ := (c : Thread nD τ).loc cc0_scratch1) slotSet slotSet_disjoint slotSet_cover f₀

/-- The kernel's own counters: the reading ring's six, then the writing ring's. -/
abbrev osem2 : Fin 6 ⊕ Fin 6 → SemLoc sig := Sum.elim (fun s => .dma (rC s).sem) (fun s => .dma (wC s).sem)
/-- The counters, numbered from zero to eleven. -/
abbrev osem : Fin 12 → SemLoc sig := fun k => osem2 ((finSumFinEquiv (m := 6) (n := 6)).symm k)
/-- The twelve counters are the call's own and different. -/
theorem ownSemFacts : Pipeline.OwnSemFacts (cfgs 0).spec osem := by decide
/-- The call's counters at zero are the two rings' counters at zero. -/
theorem ownSems_eq : (Pipeline.ownSems0 (Ix := Unit) (Name := ℕ) (U := UU) (Lvl := ℕ) (Val := Elt F) (τ := τ) osem c : sProp 𝕄)
    = iprop(bigSep Finset.univ (fun s => rCell c s) ∗ bigSep Finset.univ (fun s => wCell c s)) := by
  unfold Pipeline.ownSems0
  rw [bigSep_univ_equiv (finSumFinEquiv (m := 6) (n := 6)), bigSep_univ_sum]
  simp only [osem, Equiv.symm_apply_apply]; rfl

/-- Slots at rest are their counters at zero and their parts of the ring. -/
theorem rFree_sep : (bigSep Finset.univ (fun s => rFree c s) : sProp 𝕄) = iprop(bigSep Finset.univ (fun s => rCell c s) ∗ bigSep Finset.univ (fun s => iprop(∃ f, rSlot c s f))) :=
  bigSep_sep _ _ _
/-- The same of the writing ring. -/
theorem wFree_sep : (bigSep Finset.univ (fun s => wFree c s) : sProp 𝕄) = iprop(bigSep Finset.univ (fun s => wCell c s) ∗ bigSep Finset.univ (fun s => iprop(∃ f, wSlot c s f))) :=
  bigSep_sep _ _ _

/-- Before the first point: everything at home, every slot at rest. -/
theorem At_zero : At c X V 0 = (iprop(bigSep Finset.univ (fun s => rFree c s) ∗ bigSep Finset.univ (xP c X) ∗ bigSep Finset.univ (fun s => wFree c s)
    ∗ bigSep Finset.univ (fun b => yP c b V)) : sProp 𝕄) := by
  unfold At
  rw [bigSep_congr (Φ := rAt c X 0) (Ψ := fun s => rFree c s) fun s _ => if_pos (Or.inl rfl), bigSep_congr (Φ := xAt c X 0) (Ψ := xP c X) fun s _ => if_pos (Or.inl rfl),
    bigSep_congr (Φ := wAt c X V 0) (Ψ := fun s => wFree c s) fun s _ => if_pos (Or.inr (by have := s.isLt; unfold nxt; omega)),
    bigSep_congr (Φ := yAt c X V 0) (Ψ := fun b => yP c b V) fun s _ => if_pos (Nat.zero_le _)]
/-- After the last: the same, the result written. -/
theorem At_end : At c X V 128 = (iprop(bigSep Finset.univ (fun s => rFree c s) ∗ bigSep Finset.univ (xP c X) ∗ bigSep Finset.univ (fun s => wFree c s)
    ∗ bigSep Finset.univ (fun b => yP c b (OUT c X))) : sProp 𝕄) := by
  unfold At
  rw [bigSep_congr (Φ := rAt c X 128) (Ψ := fun s => rFree c s) fun s _ => if_pos (Or.inr (by unfold nxt; omega)),
    bigSep_congr (Φ := xAt c X 128) (Ψ := xP c X) fun s _ => if_pos (Or.inr (Or.inl s.isLt)),
    bigSep_congr (Φ := wAt c X V 128) (Ψ := fun s => wFree c s) fun s _ => if_pos (Or.inl rfl),
    bigSep_congr (Φ := yAt c X V 128) (Ψ := fun b => yP c b (OUT c X)) fun s _ => (if_neg (Nat.not_le.2 s.isLt)).trans ((if_pos (Or.inl rfl)).trans (yDone_eq c X V s))]

end Step

/-! ## The run -/

section Launch
variable (m : (ℓ : Loc nD τ sig) → Buf (Elt F) ℓ) (ρ : Dev nD → PrngReg)

/-- Where the pipeline's algebra sits in the proof's. -/
abbrev EP : Emb (UR sig nD τ) (MT nD τ sig Unit (Elt F) ℕ UU ℕ) := embL
/-- The operand at the start; -/
abbrev X₀ (c : Dev nD) : Buf (Elt F) (xM.view.loc (c : Thread nD τ)) := m ((c : Thread nD τ).loc main_arg0)
/-- and the array of the result at the start. -/
abbrev Y₀ (c : Dev nD) : Buf (Elt F) (yM.view.loc (c : Thread nD τ)) := m ((c : Thread nD τ).loc main_v0)

/-- The pipeline stages no window; what holds before each point is `At`. -/
def dats (_ : Fin 1) (c : Dev nD) : Dat τ (Elt F) Unit ℕ UU ℕ cfg0 c where
  A w := w.elim0
  after w := w.elim0
  Φ t := At c (X₀ m c) (Y₀ m c) t.val
  q _ := fullShare
  owed _ := 0

/-- The call has no window. -/
theorem noWin (Φ : Fin cfg0.W → sProp 𝕄) : bigSep Finset.univ Φ = iprop(emp) := rfl

/-- The pipeline's body is the body on the launch's buffers, -/
theorem defs_tc : (defs₀ (F := F)) .tc cfg0.body = fun a => bodyG (grid0.coords a.1) := rfl
/-- and so it is at each step. -/
theorem prog_eq (t : Fin cfg0.N) : (defs₀ (F := F)) .tc cfg0.body (cfg0.bodyArgs t (cfg0.slots t)) = bodyG (grid0.coords t) :=
  (congrFun defs_tc _).trans rfl

set_option backward.isDefEq.respectTransparency.types false in
/-- Each step of the pipeline takes what holds before its point to what holds after it. -/
theorem body_obligation (c : Dev nD) : BodyObligation (dats (F := F) m 0 c) (defs₀ (F := F)) 𝒱₀ () Set.univ := fun t => by
  rw [noWin, noWin]
  rw [show (dats m 0 c).Φ t.castSucc = At c (X₀ m c) (Y₀ m c) (tN (grid0.coords t)) from by rw [tN_coords]; rfl,
    show (dats m 0 c).Φ t.succ = At c (X₀ m c) (Y₀ m c) (tN (grid0.coords t) + 1) from by rw [tN_coords]; rfl]
  unfold Dat.owesAt Pipeline.owesWithin
  rw [show (dats m 0 c).owed t.castSucc = 0 from rfl, show (dats m 0 c).owed t.succ = 0 from rfl]
  iintro ⟨HA, ⟨%W, -, HW⟩, -⟩
  sl_rw [prog_eq t]
  iapply (step c (X₀ m c) (Y₀ m c) (grid0.coords t) W)
  isplitl [HA HW]
  · isplitl [HA]; · iexact HA
    iexact HW
  · iintro ⟨HA, ⟨%W', HW⟩⟩
    isplitl [HA]; · iexact HA
    isplitl [HW]
    · iexists W'; isplitr; · ipureintro; exact fun _ _ => Or.inl trivial
      iexact HW
    iempintro

/-- What the call is entered with: the operand's blocks, the result's, and the counters at zero. -/
def intoΦ (c : Dev nD) : sProp 𝕄 := iprop(bigSep Finset.univ (xP c (X₀ m c)) ∗ bigSep Finset.univ (fun b => yP c b (Y₀ m c)) ∗ Pipeline.ownSems0 osem c)
/-- What the call is left with: the operand unchanged and the result written. -/
def outOfΦ (c : Dev nD) : sProp 𝕄 := iprop((((c : Thread nD τ).loc main_arg0) ↦{fullShare} X₀ m c) ∗ (((c : Thread nD τ).loc main_v0) ↦{fullShare} OUT c (X₀ m c)))
/-- The ghost state at the start. -/
def u₀ : UU := (initOf (Pipeline.cells cfgs Cert.KernelIdeal.Gen.cellOf_inj) (Pipeline.launchToks cfgs Cert.KernelIdeal.Gen.cellOf_inj), 1)
/-- At the end the operand is unchanged and the result is `OUT`. -/
def QY (c : Dev nD) (s : MemSt nD τ sig (Elt F)) : Prop :=
  s.mem ((c : Thread nD τ).loc main_arg0) = m ((c : Thread nD τ).loc main_arg0) ∧ s.mem ((c : Thread nD τ).loc main_v0) = OUT c (X₀ m c)

set_option backward.isDefEq.respectTransparency.types false in
/-- From any memory with zero counters every weakly fair execution of @main ends, with the operand unchanged, the result
    `OUT`, and every counter at zero. -/
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ w => w.elim0)
    (X := intoΦ m) (Y := outOfΦ m) (Z := fun _ => iprop(emp))
    (hX := fun c => by
      rw [unscopedRest0_eq, x_blocks c, y_blocks c]
      unfold intoΦ
      iintro ⟨⟨H0, H1⟩, HS, -, -, -⟩; imodintro
      isplitl [H0 H1 HS]
      · isplitl [H0]; · iexact H0
        isplitl [H1]; · iexact H1
        iexact HS
      iempintro)
    (hin := fun c => by
      rw [scopedRest0_eq, show (dats m 0 c).Φ 0 = At c (X₀ m c) (Y₀ m c) 0 from rfl, At_zero]
      unfold intoΦ; rw [ownSems_eq, rFree_sep, wFree_sep]
      iintro ⟨⟨H0, H1, ⟨Hc0, Hc1⟩⟩, ⟨Hb0, Hb1⟩⟩
      ihave Hs0 := (r_split c) $$ Hb0
      ihave Hs1 := (w_split c) $$ Hb1
      isplitl [Hc0 Hs0]
      · isplitl [Hc0]; · iexact Hc0
        iexact Hs0
      isplitl [H0]; · iexact H0
      isplitl [Hc1 Hs1]
      · isplitl [Hc1]; · iexact Hc1
        iexact Hs1
      iexact H1)
    (hout := fun c => by
      rw [scopedRest0_eq, show (dats m 0 c).Φ (Fin.last cfg0.N) = At c (X₀ m c) (Y₀ m c) 128 from rfl, At_end, ownSems_eq, rFree_sep, wFree_sep]
      unfold outOfΦ; rw [x_blocks c, y_blocks c]
      iintro ⟨⟨Hc0, Hs0⟩, H0, ⟨Hc1, Hs1⟩, H1⟩
      isplitl [H0 H1]
      · isplitl [H0]; · iexact H0
        iexact H1
      isplitl [Hc0 Hc1]
      · isplitl [Hc0]; · iexact Hc0
        iexact Hc1
      isplitl [Hs0]
      · iapply (r_join c (m _)); iexact Hs0
      iapply (w_join c (m _)); iexact Hs1)
    (QY := QY m)
    (hY := fun c s' => by
      unfold outOfΦ
      iintro ⟨⟨H0, H1⟩, -, HSI⟩
      icombine HSI H0 gives %h0
      icombine HSI H1 gives %h1
      imodintro
      isplitr; · ipureintro; exact ⟨Buf.eq_of_forall_mem_univ h0, Buf.eq_of_forall_mem_univ h1⟩
      iexact HSI)
    (hQ := fun _ hh hz => ⟨fun c => (hh c).2, hz⟩)

end Launch

end Cert.Proof.Bern
end
-- ==== Proof.Word.lean ====
/-
  The words of the generator: one mixing step, one key addition, and the twenty mixing steps with their five key additions,
  as functions of a pair of words.
-/
module

public import Idealize.ShloMosaic.PureOps
public import Idealize.ShloMosaic.Lib.PointwiseCore

@[expose] public section

namespace Cert.Proof.Bern

open Idealize.ShloMosaic

/-- One mixing step: the words are added, the second is turned left by `k` (`l` is 32 less `k`) and the sum is folded in. -/
def mix (k l : BitVec 32) (p : BitVec 32 × BitVec 32) : BitVec 32 × BitVec 32 :=
  (p.1 + p.2, ((p.2 <<< k) ||| (p.2 >>> l)) ^^^ (p.1 + p.2))

/-- One key addition: `a` to the first word; `b`, then the step's number `n`, to the second. -/
def inj (a b n : BitVec 32) (p : BitVec 32 × BitVec 32) : BitVec 32 × BitVec 32 := (p.1 + a, p.2 + b + n)

/-- The four mixing steps of the first kind. -/
def mixA (p : BitVec 32 × BitVec 32) : BitVec 32 × BitVec 32 := mix 6#32 26#32 (mix 26#32 6#32 (mix 15#32 17#32 (mix 13#32 19#32 p)))
/-- The four mixing steps of the second kind. -/
def mixB (p : BitVec 32 × BitVec 32) : BitVec 32 × BitVec 32 := mix 24#32 8#32 (mix 16#32 16#32 (mix 29#32 3#32 (mix 17#32 15#32 p)))

/-- The generator at keys 0, 42 and their mark 466689008, on the counter's two words with the keys added. -/
def thr (p : BitVec 32 × BitVec 32) : BitVec 32 × BitVec 32 :=
  inj 466689008#32 0#32 5#32 (mixA (inj 42#32 466689008#32 4#32 (mixB (inj 0#32 42#32 3#32 (mixA
    (inj 466689008#32 0#32 2#32 (mixB (inj 42#32 466689008#32 1#32 (mixA p)))))))))

/-- A shift to the left by less than the width, on any unit, is the word's shift. -/
theorem shli_lt (u : ArithUnit) (x y : BitVec 32) (h : y.toNat < 32) : IntOp.shli u x y = x <<< y := if_pos h
/-- A shift to the right by less than the width, on any unit, is the word's shift. -/
theorem shrui_lt (u : ArithUnit) (x y : BitVec 32) (h : y.toNat < 32) : IntOp.shrui u x y = x >>> y := if_pos h

end Cert.Proof.Bern
-- ==== Proof.Value.lean ====
/-
  What the kernel computes at an element: the generator's words of the element's counter, the draw from them, the comparison.
-/
module

public import proofs.«01_k».proof.Proof.Body
public import proofs.«01_k».proof.Proof.Word
public import Idealize.ShloMosaic.Lib.Pointwise

@[expose] public section

noncomputable section

namespace Cert.Proof.Bern

open Cert.KernelIdeal Cert.KernelIdeal.Gen
open Idealize.ShloMosaic

/-- At lane `y` the two word vectors hold the pair `p`. -/
def Lane (y : S8x100000.Idx) (X0 X1 : IVec S8x100000 32) (p : BitVec 32 × BitVec 32) : Prop := X0 y = p.1 ∧ X1 y = p.2

section Steps

variable {y : S8x100000.Idx} {X0 X1 : IVec S8x100000 32} {p : BitVec 32 × BitVec 32}

/-- A mixing step of the vectors is the mixing step of every lane's pair. -/
theorem Lane.mix (k l : BitVec 32) (h : Lane y X0 X1 p) (hk : k.toNat < 32 := by decide) (hl : l.toNat < 32 := by decide) :
    Lane y (addi X0 X1) (xori (ori (shli X1 (broadcast S8x100000 k)) (shrui X1 (broadcast S8x100000 l))) (addi X0 X1)) (mix k l p) := by
  have e : ∀ a b : BitVec 32, IntOp.xori (IntOp.ori (IntOp.shli .vector b k) (IntOp.shrui .vector b l)) (IntOp.addi a b)
      = ((b <<< k) ||| (b >>> l)) ^^^ (a + b) := fun a b => by rw [shli_lt _ _ _ hk, shrui_lt _ _ _ hl]; rfl
  refine ⟨congrArg₂ (· + ·) h.1 h.2, Eq.trans (e (X0 y) (X1 y)) ?_⟩
  rw [h.1, h.2]; rfl

/-- A key addition to the vectors is the key addition to every lane's pair. -/
theorem Lane.inj (a b n : BitVec 32) (h : Lane y X0 X1 p) :
    Lane y (addi X0 (broadcast S8x100000 a)) (addi (addi X1 (broadcast S8x100000 b)) (broadcast S8x100000 n)) (inj a b n p) :=
  ⟨congrArg (· + a) h.1, congrArg (fun z => z + b + n) h.2⟩

end Steps

section Chain

variable {y : S8x100000.Idx}

/-- The first seven mixing steps, with the first key addition among them. -/
theorem chain1 (i : grid0.Coords) : Lane y (k0_pay14 466689008#32 (k0_pay3 i) (k0_pay4 i) 15#32) (k0_pay15 466689008#32 (k0_pay3 i) (k0_pay4 i) 15#32)
    (mix 16#32 16#32 (mix 29#32 3#32 (mix 17#32 15#32 (inj 42#32 466689008#32 1#32 (mixA (0#32, k0_pay2 i y)))))) := by
  have s1 : Lane y (k0_pay2 i) (k0_pay3 i) (mix 13#32 19#32 (0#32, k0_pay2 i y)) := by
    have s : Lane y (broadcast S8x100000 0#32) (k0_pay2 i) (0#32, k0_pay2 i y) := ⟨rfl, rfl⟩
    have e : addi (broadcast S8x100000 0#32) (k0_pay2 i) = k0_pay2 i := funext fun y => BitVec.zero_add _
    have t := s.mix 13#32 19#32
    rw [e] at t
    exact t
  have s2 : Lane y (k0_pay4 i) (k0_pay5 (k0_pay3 i) (k0_pay4 i) 15#32) _ := s1.mix 15#32 17#32
  have s3 : Lane y (k0_pay6 (k0_pay3 i) (k0_pay4 i) 15#32) (k0_pay7 (k0_pay3 i) (k0_pay4 i) 15#32) _ := s2.mix 26#32 6#32
  have s4 := (s3.mix 6#32 26#32).inj 42#32 466689008#32 1#32
  have s5 : Lane y (k0_pay10 466689008#32 (k0_pay3 i) (k0_pay4 i) 15#32) (k0_pay11 466689008#32 (k0_pay3 i) (k0_pay4 i) 15#32) _ := s4.mix 17#32 15#32
  have s6 : Lane y (k0_pay12 466689008#32 (k0_pay3 i) (k0_pay4 i) 15#32) (k0_pay13 466689008#32 (k0_pay3 i) (k0_pay4 i) 15#32) _ := s5.mix 29#32 3#32
  exact s6.mix 16#32 16#32

/-- From there to the third key addition. -/
theorem chain2 {v75 v81 : IVec S8x100000 32} {p : BitVec 32 × BitVec 32} (h : Lane y v75 v81 p) :
    Lane y (k0_pay25 466689008#32 v75 v81) (k0_pay27 (k0_pay26 466689008#32 v75 v81) 3#32)
      (inj 0#32 42#32 3#32 (mixA (inj 466689008#32 0#32 2#32 (mix 24#32 8#32 p)))) := by
  have s8 : Lane y (addi (k0_pay16 v75 v81) (broadcast S8x100000 466689008#32)) (k0_pay17 v75 v81) _ := (h.mix 24#32 8#32).inj 466689008#32 0#32 2#32
  have s9 : Lane y (k0_pay18 466689008#32 v75 v81) (k0_pay19 466689008#32 v75 v81) _ := s8.mix 13#32 19#32
  have s10 : Lane y (k0_pay20 466689008#32 v75 v81) (k0_pay21 466689008#32 v75 v81) _ := s9.mix 15#32 17#32
  have s11 : Lane y (k0_pay22 466689008#32 v75 v81) (k0_pay23 466689008#32 v75 v81) _ := s10.mix 26#32 6#32
  exact (s11.mix 6#32 26#32).inj 0#32 42#32 3#32

/-- From there to the seventeenth mixing step. -/
theorem chain3 {v124 v126 : IVec S8x100000 32} {p : BitVec 32 × BitVec 32} (h : Lane y v124 (k0_pay27 v126 3#32) p) :
    Lane y (k0_pay36 466689008#32 v124 v126 3#32) (k0_pay37 466689008#32 v124 v126 3#32)
      (mix 13#32 19#32 (inj 42#32 466689008#32 4#32 (mixB p))) := by
  have s13 : Lane y (k0_pay28 v124 v126 3#32) (k0_pay29 v124 v126 3#32) _ := h.mix 17#32 15#32
  have s14 : Lane y (k0_pay30 v124 v126 3#32) (k0_pay31 v124 v126 3#32) _ := s13.mix 29#32 3#32
  have s15 : Lane y (k0_pay32 v124 v126 3#32) (k0_pay33 v124 v126 3#32) _ := s14.mix 16#32 16#32
  have s16 : Lane y (addi (k0_pay34 v124 v126 3#32) (broadcast S8x100000 42#32)) (k0_pay35 466689008#32 v124 v126 3#32) _ :=
    (s15.mix 24#32 8#32).inj 42#32 466689008#32 4#32
  exact s16.mix 13#32 19#32

end Chain

variable {F : FTy → Type} [FloatOps F]

/-- From the generator's words to the result, as the kernel does it. -/
def fin (x : FVec F S8x100000 .f32) (X0 X1 : IVec S8x100000 32) : FVec F S8x100000 .f32 :=
  sitofp .f32 (extui 32 (cmpf .olt (subf (bitcastToFloat .f32 (ori (shrui (xori X0 X1) (broadcast S8x100000 9#32)) (broadcast S8x100000 1065353216#32)))
    (broadcast S8x100000 (Scalar.ofBits .f32 0x3F800000#32))) x) natLt_1_32)

/-- A lane of the result, from the generator's words of the lane. -/
theorem fin_at {y : S8x100000.Idx} {X0 X1 : IVec S8x100000 32} {p : BitVec 32 × BitVec 32} (x : FVec F S8x100000 .f32) (h : Lane y X0 X1 p) :
    fin x X0 X1 y = FloatOps.sitofp .f32 (BitVec.setWidth 32 (FloatOps.cmpf .olt
      (FloatOps.subf (FloatOps.ofBits .f32 (((p.1 ^^^ p.2) >>> 9#32) ||| 1065353216#32)) (FloatOps.ofBits .f32 0x3F800000#32)) (x y))) := by
  rw [← h.1, ← h.2, ← shrui_lt .vector _ _ (by decide)]
  rfl

/-- The last three mixing steps and the last key addition. -/
def last (p : BitVec 32 × BitVec 32) : BitVec 32 × BitVec 32 :=
  inj 466689008#32 0#32 5#32 (mix 6#32 26#32 (mix 26#32 6#32 (mix 15#32 17#32 p)))

/-- What the kernel's last piece does is the last three steps, the last key addition, and from the words to the result. -/
theorem pay40_eq (x : FVec F S8x100000 .f32) (v36 v37 : IVec S8x100000 32) {y : S8x100000.Idx} {p : BitVec 32 × BitVec 32}
    (h : Lane y v36 v37 p) :
    k0_pay40 x 466689008#32 v37 (addi v36 v37) (shli v37 (broadcast S8x100000 15#32)) 17#32 (Shape.reshapeEquiv shapeCasts_S1x8x100000_S8x100000 y)
      = FloatOps.sitofp .f32 (BitVec.setWidth 32 (FloatOps.cmpf .olt (FloatOps.subf
          (FloatOps.ofBits .f32 (((last p).1 ^^^ (last p).2) >>> 9#32 ||| 1065353216#32)) (FloatOps.ofBits .f32 0x3F800000#32)) (x y))) := by
  refine Eq.trans ?_ (fin_at x ((((h.mix 15#32 17#32).mix 26#32 6#32).mix 6#32 26#32).inj 466689008#32 0#32 5#32))
  unfold k0_pay40
  exact congrArg (fin x _ _) ((Shape.reshapeEquiv_reshapeEquiv _ _ y).trans (Shape.reshapeEquiv_self _ y))

/-- What the body computes at a lane, from the lane's counter. -/
theorem outV_at (i : grid0.Coords) (x : FVec F S8x100000 .f32) (y : S8x100000.Idx) :
    outV i x y = FloatOps.sitofp .f32 (BitVec.setWidth 32 (FloatOps.cmpf .olt
      (FloatOps.subf (FloatOps.ofBits .f32 (((thr (0#32, k0_pay2 i y)).1 ^^^ (thr (0#32, k0_pay2 i y)).2) >>> 9#32 ||| 1065353216#32))
        (FloatOps.ofBits .f32 0x3F800000#32)) (x y))) :=
  pay40_eq x _ _ (chain3 (chain2 (chain1 (y := y) i)))

/-- A lane's counter is the element's index in the whole, and 42. -/
theorem pay2_at (b : Fin 128) (y : S8x100000.Idx) :
    k0_pay2 (pt b) y = BitVec.ofNat 32 ((8 * b.val + (y 0).val) * 100000 + (y 1).val) + 42#32 := by
  unfold k0_pay2
  pointwise
  have hb := b.isLt
  have h0 := (y 0).isLt
  have h1 := (y 1).isLt
  change (y 0).val < 8 at h0
  change (y 1).val < 100000 at h1
  refine BitVec.eq_of_toNat_eq ?_
  simp only [IntOp.addi, IntOp.muli, Scalar.addi, Scalar.muli, BitVec.toNat_add, BitVec.toNat_mul, BitVec.toNat_ofNat, Nat.add_mod_mod, Nat.mod_add_mod, Nat.mul_mod_mod, Nat.mod_mul_mod]
  refine congrArg (· % _) ?_
  change (y 0).val * 100000 + (y 1).val + (8 * b.val * 100000 + 42) = _
  omega

end Cert.Proof.Bern

end
-- ==== Proof.Reference.lean ====
/-
  The reference's run: a straight line of operations, read as the key's lines, the draw's lines, the generator's twenty
  mixing steps with their key additions, and the lines that make a draw of its words.
-/
module

public import proofs.«01_k».proof.Proof.Word
public import proofs.«01_k».proof.Proof.Gen.ReferenceIdeal
public import Idealize.ShloMosaic.Lib.StableHlo.RunHlo
public import Idealize.ShloMosaic.Lib.StableHlo.ReadAt
public import Idealize.ShloMosaic.Lib.Pipeline.Frame

@[expose] public section

noncomputable section

namespace Cert.Proof.Bern.Ref

open Cert.ReferenceIdeal Cert.ReferenceIdeal.Gen
open Idealize.ShloMosaic Idealize.ShloMosaic.StableHlo Idealize.SL.Sem

variable {F : FTy → Type} [FloatOps F]

/-! ## The operations -/

/-- The draw's buffers. -/
abbrev U := main_call0
/-- The generator's buffers. -/
abbrev T := main_call0_call0
/-- The key's two words. -/
abbrev kw : TRef sig ⟨S2, .i32⟩ := .of main_v8
/-- The draw's lower bound. -/
abbrev lo : TRef sig ⟨S_, .f32⟩ := .of main_cst
/-- The draw's upper bound. -/
abbrev hi : TRef sig ⟨S_, .f32⟩ := .of main_cst_2
/-- A value of words of the operand's shape. -/
abbrev Wd := TRef sig ⟨S1024x100000, .i32⟩
/-- One word. -/
abbrev Sc := TRef sig ⟨S_, .i32⟩

/-- One mixing step's operations. -/
def rnd (k l : BitVec 32) (X0 X1 s : Wd) (c : Sc) (a y : Wd) (d : Sc) (b r o x : Wd) : List (HloOp τ sig (Elt F)) :=
  [ TRef.binary X0 X1 s addi, TRef.nullary c (constantI S_ 32 k), TRef.unary c a (broadcastInDim S1024x100000 ![] bcast_S_S1024x100000),
    TRef.binary X1 a y Host.shli, TRef.nullary d (constantI S_ 32 l), TRef.unary d b (broadcastInDim S1024x100000 ![] bcast_S_S1024x100000),
    TRef.binary X1 b r Host.shrui, TRef.binary y r o ori, TRef.binary s o x xori ]

/-- One key addition's operations. -/
def key (n : BitVec 32) (A B : Sc) (X0 X1 p q u v : Wd) (c : Sc) (y z : Wd) : List (HloOp τ sig (Elt F)) :=
  [ TRef.unary A p (broadcastInDim S1024x100000 ![] bcast_S_S1024x100000), TRef.binary X0 p q addi,
    TRef.unary B u (broadcastInDim S1024x100000 ![] bcast_S_S1024x100000), TRef.binary X1 u v addi,
    TRef.nullary c (constantI S_ 32 n), TRef.unary c y (broadcastInDim S1024x100000 ![] bcast_S_S1024x100000), TRef.binary v y z addi ]

/-- The operations ahead of the draw: the operand back to its own layout, and the key. -/
def opsK : List (HloOp τ sig (Elt F)) :=
  [ StableHlo.unary main_arg0 main_v0 ((transpose S100000x1024 [1, 0] · transposes_S1024x100000_S100000x1024_1_0) : (⟨S1024x100000, .f32⟩ : BufTy).Contents (Elt F) → (⟨S100000x1024, .f32⟩ : BufTy).Contents (Elt F)),
    StableHlo.unary main_v0 main_v1 ((transpose S1024x100000 [1, 0] · transposes_S100000x1024_S1024x100000_1_0) : (⟨S100000x1024, .f32⟩ : BufTy).Contents (Elt F) → (⟨S1024x100000, .f32⟩ : BufTy).Contents (Elt F)),
    StableHlo.nullary main_c (constantI S_ 32 42#32),
    StableHlo.nullary main_c_0 (constantI S_ 32 32#32),
    StableHlo.binary main_c main_c_0 main_v2 (Host.shrui : (⟨S_, .i32⟩ : BufTy).Contents (Elt F) → (⟨S_, .i32⟩ : BufTy).Contents (Elt F) → (⟨S_, .i32⟩ : BufTy).Contents (Elt F)),
    StableHlo.unary main_v2 main_v3 (id : (⟨S_, .i32⟩ : BufTy).Contents (Elt F) → (⟨S_, .i32⟩ : BufTy).Contents (Elt F)),
    StableHlo.unary main_v3 main_v4 (broadcastInDim S1 ![] bcast_S_S1 : (⟨S_, .i32⟩ : BufTy).Contents (Elt F) → (⟨S1, .i32⟩ : BufTy).Contents (Elt F)),
    StableHlo.nullary main_c_1 (constantI S_ 32 4294967295#32),
    StableHlo.binary main_c main_c_1 main_v5 (andi : (⟨S_, .i32⟩ : BufTy).Contents (Elt F) → (⟨S_, .i32⟩ : BufTy).Contents (Elt F) → (⟨S_, .i32⟩ : BufTy).Contents (Elt F)),
    StableHlo.unary main_v5 main_v6 (id : (⟨S_, .i32⟩ : BufTy).Contents (Elt F) → (⟨S_, .i32⟩ : BufTy).Contents (Elt F)),
    StableHlo.unary main_v6 main_v7 (broadcastInDim S1 ![] bcast_S_S1 : (⟨S_, .i32⟩ : BufTy).Contents (Elt F) → (⟨S1, .i32⟩ : BufTy).Contents (Elt F)),
    StableHlo.binary main_v4 main_v7 main_v8 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst (constant S_ .f32 0x00000000#32),
    StableHlo.nullary main_cst_2 (constant S_ .f32 0x3F800000#32) ]

/-- The draw ahead of the generator: its bounds, the two key words and the two counter words. -/
def opsU : List (HloOp τ sig (Elt F)) :=
  [ TRef.unary lo U.v0 id,
    TRef.unary hi U.v1 id,
    TRef.unary U.v0 U.v2 (broadcastInDim S1x1 ![] bcast_S_S1x1),
    TRef.unary U.v1 U.v3 (broadcastInDim S1x1 ![] bcast_S_S1x1),
    TRef.unary kw U.v4 (extractStridedSlice S1 ![0] · slices_S2_S1_0),
    TRef.reshape U.v4 U.v5 (rfl : (.i32 : EltTy) = .i32) shapeCasts_S1_S_,
    TRef.unary kw U.v6 (extractStridedSlice S1 ![1] · slices_S2_S1_1),
    TRef.reshape U.v6 U.v7 (rfl : (.i32 : EltTy) = .i32) shapeCasts_S1_S_,
    TRef.nullary U.v8 (iotaInDim S1024x100000 64 0),
    TRef.nullary U.v9 (iotaInDim S1024x100000 64 1),
    TRef.nullary U.c (constantI S_ 64 100000#64),
    TRef.unary U.c U.v10 (broadcastInDim S1024x100000 ![] bcast_S_S1024x100000),
    TRef.binary U.v10 U.v8 U.v11 muli,
    TRef.nullary U.c_0 (constantI S_ 64 1#64),
    TRef.unary U.c_0 U.v12 (broadcastInDim S1024x100000 ![] bcast_S_S1024x100000),
    TRef.binary U.v12 U.v9 U.v13 muli,
    TRef.binary U.v11 U.v13 U.v14 addi,
    TRef.nullary U.c_1 (constantI S_ 64 32#64),
    TRef.unary U.c_1 U.v15 (broadcastInDim S1024x100000 ![] bcast_S_S1024x100000),
    TRef.binary U.v14 U.v15 U.v16 Host.shrui,
    TRef.unary U.v14 U.v17 (trunci 32 · natLt_32_64),
    TRef.unary U.v16 U.v18 (trunci 32 · natLt_32_64) ]

/-- The generator's first lines: the keys' mark, and the keys added to the counter. -/
def opsA : List (HloOp τ sig (Elt F)) :=
  [ TRef.binary U.v5 U.v7 T.v0 xori,
    TRef.nullary T.c (constantI S_ 32 466688986#32),
    TRef.binary T.v0 T.c T.v1 xori,
    TRef.unary U.v5 T.v2 (broadcastInDim S1024x100000 ![] bcast_S_S1024x100000),
    TRef.binary U.v18 T.v2 T.v3 addi,
    TRef.unary U.v7 T.v4 (broadcastInDim S1024x100000 ![] bcast_S_S1024x100000),
    TRef.binary U.v17 T.v4 T.v5 addi ]

/-- The generator's twenty mixing steps and five key additions. -/
def opsR : List (HloOp τ sig (Elt F)) :=
  (rnd 13#32 19#32 T.v3 T.v5 T.v6 T.c_0 T.v7 T.v8 T.c_1 T.v9 T.v10 T.v11 T.v12) ++
  (rnd 15#32 17#32 T.v6 T.v12 T.v13 T.c_2 T.v14 T.v15 T.c_3 T.v16 T.v17 T.v18 T.v19) ++
  (rnd 26#32 6#32 T.v13 T.v19 T.v20 T.c_4 T.v21 T.v22 T.c_5 T.v23 T.v24 T.v25 T.v26) ++
  (rnd 6#32 26#32 T.v20 T.v26 T.v27 T.c_6 T.v28 T.v29 T.c_7 T.v30 T.v31 T.v32 T.v33) ++
  (key 1#32 U.v7 T.v1 T.v27 T.v33 T.v34 T.v35 T.v36 T.v37 T.c_8 T.v38 T.v39) ++
  (rnd 17#32 15#32 T.v35 T.v39 T.v40 T.c_9 T.v41 T.v42 T.c_10 T.v43 T.v44 T.v45 T.v46) ++
  (rnd 29#32 3#32 T.v40 T.v46 T.v47 T.c_11 T.v48 T.v49 T.c_12 T.v50 T.v51 T.v52 T.v53) ++
  (rnd 16#32 16#32 T.v47 T.v53 T.v54 T.c_13 T.v55 T.v56 T.c_14 T.v57 T.v58 T.v59 T.v60) ++
  (rnd 24#32 8#32 T.v54 T.v60 T.v61 T.c_15 T.v62 T.v63 T.c_16 T.v64 T.v65 T.v66 T.v67) ++
  (key 2#32 T.v1 U.v5 T.v61 T.v67 T.v68 T.v69 T.v70 T.v71 T.c_17 T.v72 T.v73) ++
  (rnd 13#32 19#32 T.v69 T.v73 T.v74 T.c_18 T.v75 T.v76 T.c_19 T.v77 T.v78 T.v79 T.v80) ++
  (rnd 15#32 17#32 T.v74 T.v80 T.v81 T.c_20 T.v82 T.v83 T.c_21 T.v84 T.v85 T.v86 T.v87) ++
  (rnd 26#32 6#32 T.v81 T.v87 T.v88 T.c_22 T.v89 T.v90 T.c_23 T.v91 T.v92 T.v93 T.v94) ++
  (rnd 6#32 26#32 T.v88 T.v94 T.v95 T.c_24 T.v96 T.v97 T.c_25 T.v98 T.v99 T.v100 T.v101) ++
  (key 3#32 U.v5 U.v7 T.v95 T.v101 T.v102 T.v103 T.v104 T.v105 T.c_26 T.v106 T.v107) ++
  (rnd 17#32 15#32 T.v103 T.v107 T.v108 T.c_27 T.v109 T.v110 T.c_28 T.v111 T.v112 T.v113 T.v114) ++
  (rnd 29#32 3#32 T.v108 T.v114 T.v115 T.c_29 T.v116 T.v117 T.c_30 T.v118 T.v119 T.v120 T.v121) ++
  (rnd 16#32 16#32 T.v115 T.v121 T.v122 T.c_31 T.v123 T.v124 T.c_32 T.v125 T.v126 T.v127 T.v128) ++
  (rnd 24#32 8#32 T.v122 T.v128 T.v129 T.c_33 T.v130 T.v131 T.c_34 T.v132 T.v133 T.v134 T.v135) ++
  (key 4#32 U.v7 T.v1 T.v129 T.v135 T.v136 T.v137 T.v138 T.v139 T.c_35 T.v140 T.v141) ++
  (rnd 13#32 19#32 T.v137 T.v141 T.v142 T.c_36 T.v143 T.v144 T.c_37 T.v145 T.v146 T.v147 T.v148) ++
  (rnd 15#32 17#32 T.v142 T.v148 T.v149 T.c_38 T.v150 T.v151 T.c_39 T.v152 T.v153 T.v154 T.v155) ++
  (rnd 26#32 6#32 T.v149 T.v155 T.v156 T.c_40 T.v157 T.v158 T.c_41 T.v159 T.v160 T.v161 T.v162) ++
  (rnd 6#32 26#32 T.v156 T.v162 T.v163 T.c_42 T.v164 T.v165 T.c_43 T.v166 T.v167 T.v168 T.v169) ++
  (key 5#32 T.v1 U.v5 T.v163 T.v169 T.v170 T.v171 T.v172 T.v173 T.c_44 T.v174 T.v175)

/-- The draw behind the generator: the words made numbers between the bounds. -/
def opsB : List (HloOp τ sig (Elt F)) :=
  [ TRef.binary T.v171 T.v175 U.v20 xori,
    TRef.nullary U.c_2 (constantI S_ 32 9#32),
    TRef.unary U.c_2 U.v21 (broadcastInDim S1024x100000 ![] bcast_S_S1024x100000),
    TRef.binary U.v20 U.v21 U.v22 Host.shrui,
    TRef.nullary U.c_3 (constantI S_ 32 1065353216#32),
    TRef.unary U.c_3 U.v23 (broadcastInDim S1024x100000 ![] bcast_S_S1024x100000),
    TRef.binary U.v22 U.v23 U.v24 ori,
    TRef.unary U.v24 U.v25 (bitcastToFloat .f32),
    TRef.nullary U.cst (constant S_ .f32 0x3F800000#32),
    TRef.unary U.cst U.v26 (broadcastInDim S1024x100000 ![] bcast_S_S1024x100000),
    TRef.binary U.v25 U.v26 U.v27 subf,
    TRef.binary U.v3 U.v2 U.v28 subf,
    TRef.unary U.v28 U.v29 (broadcastInDim S1024x100000 ![0, 1] bcast_S1x1_S1024x100000_0_1),
    TRef.binary U.v27 U.v29 U.v30 mulf,
    TRef.unary U.v2 U.v31 (broadcastInDim S1024x100000 ![0, 1] bcast_S1x1_S1024x100000_0_1),
    TRef.binary U.v30 U.v31 U.v32 addf,
    TRef.unary U.v2 U.v33 (broadcastInDim S1024x100000 ![0, 1] bcast_S1x1_S1024x100000_0_1),
    TRef.binary U.v33 U.v32 U.v34 maximumf ]

/-- The operations behind the draw: the comparison, and its result to the layout it is returned in. -/
def opsZ : List (HloOp τ sig (Elt F)) :=
  [ StableHlo.binary main_v9 main_v1 main_v10 (cmpf .olt : (⟨S1024x100000, .f32⟩ : BufTy).Contents (Elt F) → (⟨S1024x100000, .f32⟩ : BufTy).Contents (Elt F) → (⟨S1024x100000, .i1⟩ : BufTy).Contents (Elt F)),
    StableHlo.unary main_v10 main_v11 (uitofp .f32 : (⟨S1024x100000, .i1⟩ : BufTy).Contents (Elt F) → (⟨S1024x100000, .f32⟩ : BufTy).Contents (Elt F)),
    StableHlo.reshape main_v11 main_v12 (rfl : (.f32 : EltTy) = .f32) shapeCasts_S1024x100000_S1024x1x100000,
    StableHlo.unary main_v12 main_v13 ((transpose S1024x100000x1 [0, 2, 1] · transposes_S1024x1x100000_S1024x100000x1_0_2_1) : (⟨S1024x1x100000, .f32⟩ : BufTy).Contents (Elt F) → (⟨S1024x100000x1, .f32⟩ : BufTy).Contents (Elt F)),
    StableHlo.reshape main_v13 main_v14 (rfl : (.f32 : EltTy) = .f32) shapeCasts_S1024x100000x1_S1024x100000 ]

/-- The reference's operations, in order. -/
def opsAll : List (HloOp τ sig (Elt F)) := opsK ++ ((opsU ++ ((opsA ++ opsR) ++ opsB)) ++ opsZ)

/-! ## The printed program is that line -/

section Line

variable {nD : Nat} {τ : Topo} {sg : RefSig} {Val : EltTy → Type} {Λ : Labels}

/-- Two lines, one after the other, are one line. -/
theorem line_app {p q : Prog (TpuEff nD τ sg Val Λ .tc) PUnit} {a b : List (HloOp τ sg Val)} (hp : IsSeq p a) (hq : IsSeq q b) :
    IsSeq (p >>= fun _ => q) (a ++ b) := by
  unfold IsSeq at *; rw [hp, hq, seq_append]

/-- One operation is the line of it alone. -/
theorem line_one {op : HloOp τ sg Val} : IsSeq (nD := nD) (Λ := Λ) (hlo rfl op fun _ => .ret (⟨⟩ : PUnit)) [op] := rfl

/-- A line's operations may be spelt another way. -/
theorem line_congr {p : Prog (TpuEff nD τ sg Val Λ .tc) PUnit} {a b : List (HloOp τ sg Val)} (hp : IsSeq p a) (e : a = b) : IsSeq p b := e ▸ hp

end Line

set_option maxRecDepth 16384 in
/-- The printed generator is its two lists of operations. -/
theorem isSeq_thr : IsSeq (fn_threefry2x32.body (F := F) U.v5 U.v7 U.v18 U.v17 T) (opsA ++ opsR) := by
  apply line_congr
  case hp =>
    unfold fn_threefry2x32.body
    apply line_app
    case hp => unfold fn_threefry2x32.body_part0; repeat (first | exact line_one | exact IsSeq.nil | apply IsSeq.cons)
    case hq =>
      apply line_app
      case hp => unfold fn_threefry2x32.body_part1; repeat (first | exact line_one | exact IsSeq.nil | apply IsSeq.cons)
      case hq =>
        apply line_app
        case hp => unfold fn_threefry2x32.body_part2; repeat (first | exact line_one | exact IsSeq.nil | apply IsSeq.cons)
        case hq => unfold fn_threefry2x32.body_part3; repeat (first | exact line_one | exact IsSeq.nil | apply IsSeq.cons)
  case e => unfold opsA opsR rnd key; simp only [List.cons_append, List.nil_append, List.append_assoc]

/-- The printed draw is the generator's operations between its own. -/
theorem isSeq_uniform : IsSeq (fn_uniform.body (F := F) kw lo hi U) (opsU ++ ((opsA ++ opsR) ++ opsB)) := by
  apply line_congr
  case hp =>
    unfold fn_uniform.body
    iterate 22 apply IsSeq.cons
    apply line_app
    case hp => exact isSeq_thr
    case hq => repeat (first | exact IsSeq.nil | apply IsSeq.cons)
  case e => unfold opsU opsB; simp only [List.cons_append, List.nil_append]

/-- The printed program is its operations in order. -/
theorem isSeq_main (d : Dev nD) : IsSeq (main (F := F) d) opsAll := by
  apply line_congr
  case hp =>
    unfold main
    iterate 14 apply IsSeq.cons
    apply line_app
    case hp => exact isSeq_uniform
    case hq => repeat (first | exact IsSeq.nil | apply IsSeq.cons)
  case e => unfold opsAll opsK opsZ; simp only [List.cons_append, List.nil_append]

/-! ## What every operation keeps to -/

/-- An operation that touches the device's arrays only and makes no new one. -/
def Plain (op : HloOp τ sig (Elt F)) : Prop := op.bufs ⊆ tcRefs τ sig ∧ op.fresh = ∅

/-- A line of such operations. -/
def Plains (ops : List (HloOp τ sig (Elt F))) : Prop := ∀ op ∈ ops, Plain op

/-- The empty line is plain. -/
theorem plains_nil : Plains (F := F) [] := fun _ h => absurd h List.not_mem_nil
/-- A plain operation ahead of a plain line. -/
theorem plains_cons {op : HloOp τ sig (Elt F)} {ops} (hb : op.bufs ⊆ tcRefs τ sig) (hf : op.fresh = ∅) (h : Plains ops) : Plains (op :: ops) :=
  List.forall_mem_cons.mpr ⟨⟨hb, hf⟩, h⟩
/-- Two plain lines, one after the other. -/
theorem plains_app {a b : List (HloOp τ sig (Elt F))} (ha : Plains a) (hb : Plains b) : Plains (a ++ b) :=
  List.forall_mem_append.mpr ⟨ha, hb⟩

/-- Every operation of a mixing step is plain. -/
theorem rnd_plain (k l X0 X1 s c a y d b r o x) : Plains (rnd (F := F) k l X0 X1 s c a y d b r o x) :=
  plains_cons (binary_bufs_sub ..) rfl <| plains_cons (nullary_bufs_sub ..) rfl <| plains_cons (unary_bufs_sub ..) rfl <|
  plains_cons (binary_bufs_sub ..) rfl <| plains_cons (nullary_bufs_sub ..) rfl <| plains_cons (unary_bufs_sub ..) rfl <|
  plains_cons (binary_bufs_sub ..) rfl <| plains_cons (binary_bufs_sub ..) rfl <| plains_cons (binary_bufs_sub ..) rfl plains_nil

/-- Every operation of a key addition is plain. -/
theorem key_plain (n A B X0 X1 p q u v c y z) : Plains (key (F := F) n A B X0 X1 p q u v c y z) :=
  plains_cons (unary_bufs_sub ..) rfl <| plains_cons (binary_bufs_sub ..) rfl <| plains_cons (unary_bufs_sub ..) rfl <|
  plains_cons (binary_bufs_sub ..) rfl <| plains_cons (nullary_bufs_sub ..) rfl <| plains_cons (unary_bufs_sub ..) rfl <|
  plains_cons (binary_bufs_sub ..) rfl plains_nil

/-- Every operation of the generator's steps is plain. -/
theorem steps_plain : Plains (opsR (F := F)) := by
  unfold opsR
  repeat' (first | with_reducible exact rnd_plain _ _ _ _ _ _ _ _ _ _ _ _ _ | with_reducible exact key_plain _ _ _ _ _ _ _ _ _ _ _ _  | with_reducible apply plains_app)

/-- Every operation of the reference is plain. -/
theorem all_plain : Plains (opsAll (F := F)) := by
  refine plains_app ?_ (plains_app (plains_app ?_ (plains_app (plains_app ?_ steps_plain) ?_)) ?_)
  all_goals
    (try unfold opsK); (try unfold opsU); (try unfold opsA); (try unfold opsB); (try unfold opsZ)
    repeat' (first | exact plains_nil | apply plains_cons)
  all_goals first
    | rfl
    | simp only [unary_bufs_sub, nullary_bufs_sub, binary_bufs_sub, reshape_bufs_sub]

/-- The reference runs, and leaves in every array what its operations leave there. -/
theorem run_ref (m : (ℓ : Loc nD τ sig) → Buf (Elt F) ℓ) (g : Dev nD → PrngReg) :
    θ_run defs (onTc (τ := τ) (main (F := F))) ⟨m, fun _ => 0, g⟩ fun r =>
      ∀ (d : Dev nD) (b : Ref sig .tc), r.2.mem ((d.tc : Thread nD τ).loc b) = after opsAll (launchContents m d) (Proc.devRef .tc b) :=
  run_hlo defs main isSeq_main (by decide) (by decide) (List.forall_iff_forall_mem.mpr fun op h => (all_plain op h).1) (fun op h => (all_plain op h).2) m g

end Cert.Proof.Bern.Ref

end
-- ==== Proof.Steps.lean ====
/-
  What the generator's lines leave: each mixing step and each key addition of the reference, read at one index, is the step
  on a pair of words, and the arrays that later lines read are kept.
-/
module

public import proofs.«01_k».proof.Proof.Reference

@[expose] public section

noncomputable section

namespace Cert.Proof.Bern.Ref

open Cert.ReferenceIdeal Cert.ReferenceIdeal.Gen
open Idealize.ShloMosaic Idealize.ShloMosaic.StableHlo Idealize.SL.Sem

variable {F : FTy → Type} [FloatOps F]

/-! ## Reading a value -/

/-- What an array holds, at its value's type. -/
def rd {B : BufTy} (X : TRef sig B) (V : Valuation τ sig (Elt F)) : B.Contents (Elt F) := X.ofBuf (V (Proc.devRef .tc X.ref))

variable {Ba Bb By Bz : BufTy}

/-- A constant's line leaves the constant. -/
theorem rd_nullary (y : TRef sig By) (v : By.Contents (Elt F)) (V : Valuation τ sig (Elt F)) : rd y ((TRef.nullary y v).result V) = v := by
  unfold rd; rw [nullary_result]; exact TRef.ofBuf_toBuf y v
/-- A one-operand line leaves its function of the operand. -/
theorem rd_unary (a : TRef sig Ba) (y : TRef sig By) (f : Ba.Contents (Elt F) → By.Contents (Elt F)) (V : Valuation τ sig (Elt F)) :
    rd y ((TRef.unary a y f).result V) = f (rd a V) := by
  unfold rd; rw [unary_result]; exact TRef.ofBuf_toBuf y _
/-- A two-operand line leaves its function of the operands. -/
theorem rd_binary (a : TRef sig Ba) (b : TRef sig Bb) (y : TRef sig By) (f : Ba.Contents (Elt F) → Bb.Contents (Elt F) → By.Contents (Elt F))
    (V : Valuation τ sig (Elt F)) : rd y ((TRef.binary a b y f).result V) = f (rd a V) (rd b V) := by
  unfold rd; rw [binary_result]; exact TRef.ofBuf_toBuf y _
/-- A constant's line keeps every other array. -/
theorem rd_nullary_ne (z : TRef sig Bz) (y : TRef sig By) (v : By.Contents (Elt F)) (V : Valuation τ sig (Elt F)) (h : z.ref ≠ y.ref) :
    rd z ((TRef.nullary y v).result V) = rd z V := by
  unfold rd; rw [nullary_result_ne _ _ _ _ h]
/-- A one-operand line keeps every other array. -/
theorem rd_unary_ne (z : TRef sig Bz) (a : TRef sig Ba) (y : TRef sig By) (f : Ba.Contents (Elt F) → By.Contents (Elt F))
    (V : Valuation τ sig (Elt F)) (h : z.ref ≠ y.ref) : rd z ((TRef.unary a y f).result V) = rd z V := by
  unfold rd; rw [unary_result_ne _ _ _ _ _ _ h]
/-- A two-operand line keeps every other array. -/
theorem rd_binary_ne (z : TRef sig Bz) (a : TRef sig Ba) (b : TRef sig Bb) (y : TRef sig By)
    (f : Ba.Contents (Elt F) → Bb.Contents (Elt F) → By.Contents (Elt F)) (V : Valuation τ sig (Elt F)) (h : z.ref ≠ y.ref) :
    rd z ((TRef.binary a b y f).result V) = rd z V := by
  unfold rd; rw [binary_result_ne _ _ _ _ _ _ _ _ h]

/-! ## The steps -/

/-- The arrays that later lines read besides a step's two words. -/
def kept : List (Ref sig .tc) := [U.v5.ref, U.v7.ref, T.v1.ref, U.v2.ref, U.v3.ref, main_v1, main_arg0]

/-- At an index, two arrays hold a pair of words, and the kept arrays hold what they held. -/
structure Inv (j : S1024x100000.Idx) (V V₀ : Valuation τ sig (Elt F)) (X0 X1 : Wd) (p : BitVec 32 × BitVec 32) : Prop where
  fst : rd X0 V j = p.1
  snd : rd X1 V j = p.2
  same : ∀ z ∈ kept, V (Proc.devRef .tc z) = V₀ (Proc.devRef .tc z)

variable {j : S1024x100000.Idx} {V V₀ : Valuation τ sig (Elt F)} {X0 X1 s a y b r o x p q u v z : Wd} {c d A B : Sc} {w : BitVec 32 × BitVec 32}

set_option maxHeartbeats 1000000 in
/-- A mixing step's lines take the pair to its mixing step. -/
theorem rnd_inv (k l : BitVec 32) (h : Inv j V V₀ X0 X1 w) (hk : k.toNat < 32) (hl : l.toNat < 32)
    (hd : [X0.ref, X1.ref, s.ref, c.ref, a.ref, y.ref, d.ref, b.ref, r.ref, o.ref, x.ref].Nodup)
    (hw : ∀ z ∈ kept, z ∉ [s.ref, c.ref, a.ref, y.ref, d.ref, b.ref, r.ref, o.ref, x.ref]) :
    Inv j (after (rnd k l X0 X1 s c a y d b r o x) V) V₀ s x (mix k l w) := by
  simp only [List.nodup_cons, List.mem_cons, List.not_mem_nil, not_or, or_false, not_false_eq_true, List.nodup_nil, and_true] at hd
  obtain ⟨⟨h1, h2, h3, h4, h5, h6, h7, h8, h9, h10⟩, ⟨i2, i3, i4, i5, i6, i7, i8, i9, i10⟩, ⟨j3, j4, j5, j6, j7, j8, j9, j10⟩, ⟨k4, k5, k6, k7, k8, k9, k10⟩,
    ⟨l5, l6, l7, l8, l9, l10⟩, ⟨m6, m7, m8, m9, m10⟩, ⟨n7, n8, n9, n10⟩, ⟨o8, o9, o10⟩, ⟨p9, p10⟩, q10⟩ := hd
  have e0 := h.fst
  have e1 := h.snd
  refine ⟨?_, ?_, fun z hz => ?_⟩
  · unfold rnd
    simp (disch := assumption) only [after_cons, after_nil, rd_binary, rd_binary_ne, rd_unary, rd_unary_ne, rd_nullary, rd_nullary_ne]
    simp only [addi, IntOp.addi, mix, e0, e1]
  · unfold rnd
    simp (disch := first | assumption | (apply Ne.symm; assumption)) only [after_cons, after_nil, rd_binary, rd_binary_ne, rd_unary, rd_unary_ne, rd_nullary, rd_nullary_ne]
    simp only [addi, IntOp.addi, xori, IntOp.xori, ori, IntOp.ori, Host.shli, Host.shrui, broadcastInDim, constantI, shli_lt _ _ _ hk, shrui_lt _ _ _ hl, mix, e0, e1]
    exact BitVec.xor_comm _ _
  · refine Eq.trans ?_ (h.same z hz)
    have hz' := hw z hz
    simp only [List.mem_cons, List.not_mem_nil, not_or, or_false, not_false_eq_true] at hz'
    obtain ⟨z1, z2, z3, z4, z5, z6, z7, z8, z9⟩ := hz'
    unfold rnd
    simp only [after_cons, after_nil]
    rw [binary_result_ne _ _ _ _ _ _ _ _ z9, binary_result_ne _ _ _ _ _ _ _ _ z8, binary_result_ne _ _ _ _ _ _ _ _ z7, unary_result_ne _ _ _ _ _ _ z6,
      nullary_result_ne _ _ _ _ z5, binary_result_ne _ _ _ _ _ _ _ _ z4, unary_result_ne _ _ _ _ _ _ z3, nullary_result_ne _ _ _ _ z2, binary_result_ne _ _ _ _ _ _ _ _ z1]

set_option maxHeartbeats 1000000 in
/-- A key addition's lines take the pair to its key addition, for keys that are kept. -/
theorem key_inv (n ka kb : BitVec 32) (h : Inv j V V₀ X0 X1 w) (hA : A.ref ∈ kept) (hB : B.ref ∈ kept) (ea : ∀ i, rd A V₀ i = ka) (eb : ∀ i, rd B V₀ i = kb)
    (hd : [X0.ref, X1.ref, p.ref, q.ref, u.ref, v.ref, c.ref, y.ref, z.ref].Nodup)
    (hw : ∀ t ∈ kept, t ∉ [p.ref, q.ref, u.ref, v.ref, c.ref, y.ref, z.ref]) :
    Inv j (after (key n A B X0 X1 p q u v c y z) V) V₀ q z (inj ka kb n w) := by
  have fa : ∀ i, rd A V i = ka := fun i => by rw [← ea i]; unfold rd; rw [h.same _ hA]
  have fb : ∀ i, rd B V i = kb := fun i => by rw [← eb i]; unfold rd; rw [h.same _ hB]
  have hB' := hw _ hB
  simp only [List.mem_cons, List.not_mem_nil, not_or, or_false, not_false_eq_true] at hB'
  obtain ⟨b1, b2, b3, b4, b5, b6, b7⟩ := hB'
  simp only [List.nodup_cons, List.mem_cons, List.not_mem_nil, not_or, or_false, not_false_eq_true, List.nodup_nil, and_true] at hd
  obtain ⟨⟨h1, h2, h3, h4, h5, h6, h7, h8⟩, ⟨i2, i3, i4, i5, i6, i7, i8⟩, ⟨j3, j4, j5, j6, j7, j8⟩, ⟨k4, k5, k6, k7, k8⟩,
    ⟨l5, l6, l7, l8⟩, ⟨m6, m7, m8⟩, ⟨n7, n8⟩, o8⟩ := hd
  have e0 := h.fst
  have e1 := h.snd
  refine ⟨?_, ?_, fun t ht => ?_⟩
  · unfold key
    simp (disch := first | assumption | (apply Ne.symm; assumption)) only [after_cons, after_nil, rd_binary, rd_binary_ne, rd_unary, rd_unary_ne, rd_nullary, rd_nullary_ne]
    simp only [addi, IntOp.addi, broadcastInDim, inj, e0, fa]
  · unfold key
    simp (disch := first | assumption | (apply Ne.symm; assumption)) only [after_cons, after_nil, rd_binary, rd_binary_ne, rd_unary, rd_unary_ne, rd_nullary, rd_nullary_ne]
    simp only [addi, IntOp.addi, broadcastInDim, constantI, inj, e1, fb]
  · refine Eq.trans ?_ (h.same t ht)
    have hz' := hw t ht
    simp only [List.mem_cons, List.not_mem_nil, not_or, or_false, not_false_eq_true] at hz'
    obtain ⟨z1, z2, z3, z4, z5, z6, z7⟩ := hz'
    unfold key
    simp only [after_cons, after_nil]
    rw [binary_result_ne _ _ _ _ _ _ _ _ z7, unary_result_ne _ _ _ _ _ _ z6, nullary_result_ne _ _ _ _ z5, binary_result_ne _ _ _ _ _ _ _ _ z4,
      unary_result_ne _ _ _ _ _ _ z3, binary_result_ne _ _ _ _ _ _ _ _ z2, unary_result_ne _ _ _ _ _ _ z1]

/-- The twenty mixing steps and five key additions take the pair to the generator's words. -/
theorem steps_inv (h0 : ∀ i, rd U.v5 V₀ i = 0#32) (h1 : ∀ i, rd U.v7 V₀ i = 42#32) (h2 : ∀ i, rd T.v1 V₀ i = 466689008#32)
    (e0 : rd T.v3 V₀ j = w.1) (e1 : rd T.v5 V₀ j = w.2) : Inv j (after opsR V₀) V₀ T.v171 T.v175 (thr w) := by
  unfold opsR thr mixA mixB
  simp only [StableHlo.after_append]
  repeat first
    | with_reducible refine rnd_inv _ _ ?_ ?_ ?_ ?_ ?_
    | with_reducible refine key_inv _ _ _ ?_ ?_ ?_ ?_ ?_ ?_ ?_
  · exact ⟨e0, e1, fun _ _ => rfl⟩
  all_goals first | exact h0 | exact h1 | exact h2 | decide

end Cert.Proof.Bern.Ref

end
-- ==== Proof.Draw.lean ====
/-
  The reference's result at an index: the comparison of the draw that the generator's words make with the operand's element.
-/
module

public import proofs.«01_k».proof.Proof.Steps
public import Idealize.ShloMosaic.Lib.Pointwise
public import Idealize.ShloMosaic.PureOps.Ideal
public import Idealize.ShloMosaic.Lib.IdealHost

@[expose] public section

noncomputable section

namespace Cert.Proof.Bern.Ref

open Cert.ReferenceIdeal Cert.ReferenceIdeal.Gen
open Idealize.ShloMosaic Idealize.ShloMosaic.StableHlo Idealize.SL.Sem

variable {F : FTy → Type} [FloatOps F]

/-! ## Ahead of the generator -/

set_option maxRecDepth 16384 in
/-- The key's first word, the upper half of the seed. -/
theorem key0 (V : Valuation τ sig (Elt F)) : after opsK V (Proc.devRef .tc main_v8) (ix1 0) = 0#32 := by
  unfold opsK
  after_results
  clean_types
  pointwise
  show Host.shrui (constantI S_ 32 42#32) (constantI S_ 32 32#32) ix0 = 0#32
  pointwise
  exact Eq.trans (if_neg (by decide)) (by decide)

set_option maxRecDepth 16384 in
/-- The key's second word, the lower half of the seed. -/
theorem key1 (V : Valuation τ sig (Elt F)) : after opsK V (Proc.devRef .tc main_v8) (ix1 1) = 42#32 := by
  unfold opsK
  after_results
  clean_types
  pointwise
  show andi (constantI S_ 32 42#32) (constantI S_ 32 4294967295#32) ix0 = 42#32
  pointwise
  decide

/-- The operand, turned twice, is itself. -/
theorem head_arg (V : Valuation τ sig (Elt F)) (j) : after opsK V (Proc.devRef .tc main_v1) j = V (Proc.devRef .tc main_arg0) j := by
  unfold opsK
  after_reads_at

/-- The draw's lower bound, as printed. -/
theorem head_lo (V : Valuation τ sig (Elt F)) (j) : after opsK V (Proc.devRef .tc main_cst) j = FloatOps.ofBits .f32 0x00000000#32 := by
  unfold opsK
  after_reads_at

/-- The draw's upper bound, as printed. -/
theorem head_hi (V : Valuation τ sig (Elt F)) (j) : after opsK V (Proc.devRef .tc main_cst_2) j = FloatOps.ofBits .f32 0x3F800000#32 := by
  unfold opsK
  after_reads_at

/-- The lines of the draw ahead of the generator's steps. -/
def opsH : List (HloOp τ sig (Elt F)) := opsU ++ opsA

section Head

variable (V : Valuation τ sig (Elt F))

/-- The first key word is the key's first. -/
theorem head_v5 (i) : rd U.v5 (after opsH V) i = V (Proc.devRef .tc main_v8) (ix1 0) := by
  unfold rd opsH opsU opsA
  simp only [List.cons_append, List.nil_append]
  after_reads_at

/-- The second key word is the key's second. -/
theorem head_v7 (i) : rd U.v7 (after opsH V) i = V (Proc.devRef .tc main_v8) (ix1 1) := by
  unfold rd opsH opsU opsA
  simp only [List.cons_append, List.nil_append]
  after_reads_at

/-- The third key word is the two words and the mark, folded. -/
theorem head_t1 (i) : rd T.v1 (after opsH V) i
    = IntOp.xori (w := 32) (IntOp.xori (w := 32) (V (Proc.devRef .tc main_v8) (ix1 0)) (V (Proc.devRef .tc main_v8) (ix1 1))) 466688986#32 := by
  unfold rd opsH opsU opsA
  simp only [List.cons_append, List.nil_append]
  after_reads_at

/-- The first counter word: the upper half of an index of the whole is zero, and the first key word is added. -/
theorem head_c3 (j : S1024x100000.Idx) : rd T.v3 (after opsH V) j = V (Proc.devRef .tc main_v8) (ix1 0) := by
  unfold rd opsH opsU opsA
  simp only [List.cons_append, List.nil_append]
  after_reads_at
  have a := (j 0).isLt
  have b := (j 1).isLt
  change (j 0).val < 1024 at a
  change (j 1).val < 100000 at b
  have e : IntOp.shrui ArithUnit.host (IntOp.addi (IntOp.muli 100000#64 (BitVec.ofNat 64 (j 0).val)) (IntOp.muli 1#64 (BitVec.ofNat 64 (j 1).val))) 32#64 = 0#64 := by
    refine Eq.trans (if_pos (by decide)) (BitVec.eq_of_toNat_eq ?_)
    simp only [IntOp.addi, IntOp.muli, BitVec.toNat_ushiftRight, BitVec.ushiftRight_eq', BitVec.toNat_add, BitVec.toNat_mul, BitVec.toNat_ofNat, Nat.shiftRight_eq_div_pow, Nat.reducePow, Nat.reduceMod, one_mul]
    have e0 : (j 0).val % 18446744073709551616 = (j 0).val := Nat.mod_eq_of_lt (by omega)
    have e1 : (j 1).val % 18446744073709551616 = (j 1).val := Nat.mod_eq_of_lt (by omega)
    have e2 : 100000 * (j 0).val % 18446744073709551616 = 100000 * (j 0).val := Nat.mod_eq_of_lt (by omega)
    have e3 : (100000 * (j 0).val + (j 1).val) % 18446744073709551616 = 100000 * (j 0).val + (j 1).val := Nat.mod_eq_of_lt (by omega)
    rw [e0, e1, e1, e2, e3]
    exact Nat.div_eq_of_lt (by omega)
  rw [e]
  exact BitVec.zero_add _

/-- The second counter word: the index of the element in the whole, with the second key word added. -/
theorem head_c5 (j : S1024x100000.Idx) : rd T.v5 (after opsH V) j
    = BitVec.ofNat 32 ((j 0).val * 100000 + (j 1).val) + V (Proc.devRef .tc main_v8) (ix1 1) := by
  unfold rd opsH opsU opsA
  simp only [List.cons_append, List.nil_append]
  after_reads_at
  have a := (j 0).isLt
  have b := (j 1).isLt
  change (j 0).val < 1024 at a
  change (j 1).val < 100000 at b
  refine congrArg (· + _) (BitVec.eq_of_toNat_eq ?_)
  simp only [IntOp.addi, IntOp.muli, BitVec.toNat_setWidth, BitVec.toNat_add, BitVec.toNat_mul, BitVec.toNat_ofNat]
  omega

/-- The lower bound the draw is carried with. -/
theorem head_v2 (j) : rd U.v2 (after opsH V) j = V (Proc.devRef .tc main_cst) ix0 := by
  unfold rd opsH opsU opsA
  simp only [List.cons_append, List.nil_append]
  after_reads_at
  rfl

/-- The upper bound the draw is carried with. -/
theorem head_v3 (j) : rd U.v3 (after opsH V) j = V (Proc.devRef .tc main_cst_2) ix0 := by
  unfold rd opsH opsU opsA
  simp only [List.cons_append, List.nil_append]
  after_reads_at
  rfl

/-- The operand stays. -/
theorem head_v1 (j) : after opsH V (Proc.devRef .tc main_v1) j = V (Proc.devRef .tc main_v1) j := by
  unfold opsH opsU opsA
  simp only [List.cons_append, List.nil_append]
  after_reads_at

end Head

/-! ## Behind the generator -/

/-- A number in `[1, 2)` from 23 bits is at least one. -/
theorem one_le_ofBits (w : BitVec 32) : 1 ≤ Ideal.ofBits .f32 ((w >>> 9#32) ||| 1065353216#32) := by
  have hn : ((w >>> 9#32) ||| 1065353216#32).extractLsb' 31 1 = 0#1 := by
    refine BitVec.eq_of_getLsbD_eq fun i hi => ?_
    interval_cases i
    simp
  have he : ((w >>> 9#32) ||| 1065353216#32).extractLsb' 23 8 = 127#8 := by
    refine BitVec.eq_of_getLsbD_eq fun i hi => ?_
    interval_cases i <;> simp
  have ht (t : Nat) : (1 : ℝ) ≤ 1 * ((2 ^ 23 + t : Nat) : ℝ) * (2 : ℝ) ^ (((127 : Nat) : Int) - (2 ^ (8 - 1) - 1) - (23 : Nat)) := by
    have e : (2 : ℝ) ^ (((127 : Nat) : Int) - (2 ^ (8 - 1) - 1) - (23 : Nat)) = ((2 : ℝ) ^ 23)⁻¹ := by
      rw [← zpow_natCast, ← zpow_neg]; norm_num
    rw [e, one_mul, ← div_eq_mul_inv, one_le_div (by positivity)]
    push_cast
    have := Nat.cast_nonneg (α := ℝ) t
    linarith
  unfold Ideal.ofBits Ideal.ieee
  simp only [hn, he]
  rw [if_neg (by decide), if_neg (by decide), if_neg (by decide)]
  exact EReal.coe_le_coe_iff.2 (ht _)

/-- The draw at an index, from the generator's two words there. -/
def draw (w : BitVec 32 × BitVec 32) : EReal := Ideal.ofBits .f32 (((w.1 ^^^ w.2) >>> 9#32) ||| 1065353216#32) - 1

/-- The draw is not negative. -/
theorem draw_nonneg (w : BitVec 32 × BitVec 32) : 0 ≤ draw w := by
  unfold draw
  refine (EReal.sub_nonneg (.inr (EReal.coe_ne_top 1)) (.inr (EReal.coe_ne_bot 1))).2 (one_le_ofBits _)

set_option maxHeartbeats 1000000 in
/-- The result at an index: one where the draw is less than the operand, else zero. -/
theorem tail_at (V : Valuation τ sig (Elt Ideal)) (j : S1024x100000.Idx) (w : BitVec 32 × BitVec 32) (h2 : ∀ i, rd U.v2 V i = Ideal.ofBits .f32 0x00000000#32)
    (h3 : ∀ i, rd U.v3 V i = Ideal.ofBits .f32 0x3F800000#32) (e0 : rd T.v171 V j = w.1) (e1 : rd T.v175 V j = w.2) :
    after (opsB ++ opsZ) V (Proc.devRef .tc main_v14) j
      = FloatOps.uitofp (F := Ideal) .f32 (BitVec.ofBool (decide (draw w < V (Proc.devRef .tc main_v1) j))) := by
  unfold opsB opsZ
  simp only [List.cons_append, List.nil_append]
  after_reads_at
  have g2 := h2 (ix2 0 0)
  have g3 := h3 (ix2 0 0)
  change V (Proc.devRef .tc U.v2.ref) (ix2 0 0) = _ at g2
  change V (Proc.devRef .tc U.v3.ref) (ix2 0 0) = _ at g3
  change V (Proc.devRef .tc T.v171.ref) j = _ at e0
  change V (Proc.devRef .tc T.v175.ref) j = _ at e1
  rw [g2, g3, e0, e1, shrui_lt _ _ _ (by decide), Ideal.ofBits_zero_f32, Ideal.ofBits_one_f32, sub_zero, add_zero]
  erw [mul_one]
  have e : max 0 (draw w) = draw w := max_eq_right (draw_nonneg w)
  rw [← e]
  rfl

/-! ## The whole line -/

/-- No line ahead of the generator's steps writes the operand. -/
theorem keep_K (V : Valuation τ sig (Elt F)) (j) : after opsK V (Proc.devRef .tc main_arg0) j = V (Proc.devRef .tc main_arg0) j := by
  unfold opsK
  after_reads_at

/-- No line of the draw ahead of the generator's steps writes the operand. -/
theorem keep_H (V : Valuation τ sig (Elt F)) (j) : after opsH V (Proc.devRef .tc main_arg0) j = V (Proc.devRef .tc main_arg0) j := by
  unfold opsH opsU opsA
  simp only [List.cons_append, List.nil_append]
  after_reads_at

/-- No line behind the generator's steps writes the operand. -/
theorem keep_Z (V : Valuation τ sig (Elt F)) (j) : after (opsB ++ opsZ) V (Proc.devRef .tc main_arg0) j = V (Proc.devRef .tc main_arg0) j := by
  unfold opsB opsZ
  simp only [List.cons_append, List.nil_append]
  after_reads_at

/-- The whole line is its four pieces. -/
theorem opsAll_eq (V : Valuation τ sig (Elt F)) : after opsAll V = after (opsB ++ opsZ) (after opsR (after opsH (after opsK V))) := by
  simp only [opsAll, opsH, after_append]

/-- The generator's lines, from what is ahead of them. -/
theorem words_inv (V : Valuation τ sig (Elt F)) (j : S1024x100000.Idx) :
    Inv j (after opsR (after opsH (after opsK V))) (after opsH (after opsK V)) T.v171 T.v175
      (thr (0#32, BitVec.ofNat 32 ((j 0).val * 100000 + (j 1).val) + 42#32)) :=
  steps_inv (fun i => (head_v5 _ i).trans (key0 V)) (fun i => (head_v7 _ i).trans (key1 V))
    (fun i => (head_t1 _ i).trans (by rw [key0, key1]; rfl)) ((head_c3 _ j).trans (key0 V)) ((head_c5 _ j).trans (by rw [key1]))

/-- The operand is unchanged. -/
theorem arg_kept (V : Valuation τ sig (Elt F)) : after opsAll V (Proc.devRef .tc main_arg0) = V (Proc.devRef .tc main_arg0) := by
  rw [opsAll_eq]
  funext j
  rw [keep_Z, (words_inv V j).same main_arg0 (by decide), keep_H, keep_K]

/-- The reference's result at an index. -/
theorem result_at (V : Valuation τ sig (Elt Ideal)) (j : S1024x100000.Idx) :
    after opsAll V (Proc.devRef .tc main_v14) j
      = FloatOps.uitofp (F := Ideal) .f32 (BitVec.ofBool (decide
          (draw (thr (0#32, BitVec.ofNat 32 ((j 0).val * 100000 + (j 1).val) + 42#32)) < V (Proc.devRef .tc main_arg0) j))) := by
  have h := words_inv V j
  have h2 : ∀ i, rd U.v2 (after opsR (after opsH (after opsK V))) i = Ideal.ofBits .f32 0x00000000#32 := fun i => by
    unfold rd; rw [h.same U.v2.ref (by decide)]; exact (head_v2 _ i).trans (head_lo V ix0)
  have h3 : ∀ i, rd U.v3 (after opsR (after opsH (after opsK V))) i = Ideal.ofBits .f32 0x3F800000#32 := fun i => by
    unfold rd; rw [h.same U.v3.ref (by decide)]; exact (head_v3 _ i).trans (head_hi V ix0)
  rw [opsAll_eq, tail_at _ j _ h2 h3 h.fst h.snd, h.same main_v1 (by decide), head_v1, head_arg]

end Cert.Proof.Bern.Ref

end
-- ==== Proof.lean ====
/-
  The certificate: the run of the kernel, the same for the program as printed and for the one read at extended reals; the run of
  the reference; and the two results equal element by element.
-/
module

public import proofs.«01_k».proof.Defs
public import proofs.«01_k».proof.Proof.Launch
public import proofs.«01_k».proof.Proof.Value
public import proofs.«01_k».proof.Proof.Draw
public import proofs.«01_k».proof.Proof.Gen.Kernel
public import proofs.«01_k».proof.Proof.Gen.ReferenceIdeal
public import Idealize.ShloMosaic.Lib.KernelVsHost

@[expose] public section

noncomputable section

namespace Cert.Proof

open Idealize.ShloMosaic Idealize.SL.Sem Idealize.ShloMosaic.TcCoe
open Cert.Proof.Bern

/-- The bit of a comparison, widened and converted signed, is the bit converted unsigned. -/
theorem bit_eq (a : BitVec 1) : FloatOps.sitofp (F := Ideal) .f32 (BitVec.setWidth 32 a) = FloatOps.uitofp .f32 a :=
  congrFun (sitofp_extui_eq_uitofp (φ := .f32) (fun _ : (⟨0, ![]⟩ : Shape).Idx => a) (by decide)) (fun i => i.elim0)

section Kernel

open Cert.KernelIdeal Cert.KernelIdeal.Gen

/-- The kernel's result at an element: one where the draw at the element's counter is less than the operand, else zero. -/
theorem out_at (c : Dev nD) (X : Buf (Elt Ideal) (xM.view.loc (c : Thread nD τ))) (j : S1024x100000.Idx) :
    OUT c X j = FloatOps.uitofp (F := Ideal) .f32 (BitVec.ofBool (decide
      (Ref.draw (thr (0#32, BitVec.ofNat 32 ((j 0).val * 100000 + (j 1).val) + 42#32)) < X j))) := by
  have h0 : (j 0).val < 1024 := (j 0).isLt
  have hb : (j 0).val / 8 < 128 := by omega
  let b : Fin 128 := ⟨(j 0).val / 8, hb⟩
  let y : S8x100000.Idx := fun | ⟨0, _⟩ => ⟨(j 0).val % 8, Nat.mod_lt _ (by decide)⟩ | ⟨1, _⟩ => j 1
  have e0 : (j 0).val = 8 * b.val + (y 0).val := by show (j 0).val = 8 * ((j 0).val / 8) + (j 0).val % 8; omega
  have e1 : (j 1).val = (y 1).val := rfl
  have ex : (xB b).view.read (Elt Ideal) X y = X j := by
    refine congrArg X ?_
    funext a
    apply Fin.ext
    match a with
    | ⟨0, _⟩ => show 8 * b.val + 1 * (y 0).val = (j 0).val; omega
    | ⟨1, _⟩ => show 0 + 1 * (y 1).val = (j 1).val; omega
  rw [OUT_at c X b y j e0 e1, outB, outV_at, pay2_at, ← e0, ← e1, ex, bit_eq]
  have e : FloatOps.subf (F := Ideal) (FloatOps.ofBits .f32 (((thr (0#32, BitVec.ofNat 32 ((j 0).val * 100000 + (j 1).val) + 42#32)).1
      ^^^ (thr (0#32, BitVec.ofNat 32 ((j 0).val * 100000 + (j 1).val) + 42#32)).2) >>> 9#32 ||| 1065353216#32)) (FloatOps.ofBits .f32 0x3F800000#32)
      = Ref.draw (thr (0#32, BitVec.ofNat 32 ((j 0).val * 100000 + (j 1).val) + 42#32)) :=
    congrArg (fun z : EReal => Ideal.ofBits .f32 _ - z) Ideal.ofBits_one_f32
  rw [e]
  rfl

end Kernel

/-- The program as printed runs, its operand unchanged and its counters at zero at the end. -/
theorem frame_kernel : Cert.quiescent_Kernel := fun m g _ =>
  θ_run_mono (run_main (F := Bits) m g) fun _ h => ⟨fun c => (h.1 c).1, h.2⟩

/-- The program at the extended reals runs, its operand unchanged and its counters at zero at the end. -/
theorem frame_kernelIdeal : Cert.quiescent_KernelIdeal := fun m g _ =>
  θ_run_mono (run_main (F := Ideal) m g) fun _ h => ⟨fun c => (h.1 c).1, h.2⟩

/-- The reference at the extended reals runs, its operand unchanged; it has no counter. -/
theorem frame_reference : Cert.quiescent_ReferenceIdeal := fun m g _ =>
  θ_run_mono (Ref.run_ref (F := Ideal) m g) fun r h => ⟨fun c => (h c Cert.ReferenceIdeal.main_arg0).trans (Ref.arg_kept _),
    sem_eq_zero_of_no_sems (by decide) r.2⟩

/-- The program's result is the reference's at the extended reals. -/
theorem values : Cert.algebraic_KernelIdeal_ReferenceIdeal := fun m g m' g' _ hagree =>
  ⟨fun c => OUT c (X₀ m c), θ_run_mono (run_main (F := Ideal) m g) fun _ h c => ⟨(h.1 c).2, (h.1 c).1⟩,
    θ_run_mono (Ref.run_ref (F := Ideal) m' g') fun r h c =>
      ⟨(h c Cert.ReferenceIdeal.main_v14).trans (funext fun j => (Ref.result_at _ j).trans ((congrArg (fun X : Buf (Elt Ideal) ((c.tc : Thread Cert.ReferenceIdeal.nD Cert.ReferenceIdeal.τ).loc Cert.ReferenceIdeal.main_arg0) =>
            FloatOps.uitofp (F := Ideal) .f32 (BitVec.ofBool (decide (Ref.draw _ < X j)))) (hagree c)).trans
              (out_at c (X₀ m c) j).symm)),
        (h c Cert.ReferenceIdeal.main_arg0).trans (Ref.arg_kept _)⟩⟩

/-- Everything the certificate claims. -/
theorem claim : Cert.Claim := ⟨Cert.Kernel.Gen.facts, Cert.KernelIdeal.Gen.facts, Cert.ReferenceIdeal.Gen.facts,
  frame_kernel, frame_kernelIdeal, frame_reference, trivial, values⟩

end Cert.Proof

end
